-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bank [hPre_in_bank : Cert.Pre_in_bank.Facts] (m : (ℓ : Loc Cert.KernelIdeal.nD Cert.KernelIdeal.τ Cert.KernelIdeal.sig) → Buf (Elt Ideal) ℓ) : Prop :=
  ∀ c : Dev Cert.KernelIdeal.nD,
    (Cert.Pre_in_bank.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bank [hPre_in_bank : Cert.Pre_in_bank.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bank.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_distinct [hPre_distinct : Cert.Pre_distinct.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_distinct.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_distinct [hPre_distinct : Cert.Pre_distinct.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_distinct.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_enough [hPre_enough : Cert.Pre_enough.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_enough.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_enough [hPre_enough : Cert.Pre_enough.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_enough.fn (F := Ideal) (m ((c.tc : Thread Cert.Reference3Ideal.nD Cert.Reference3Ideal.τ).loc Cert.Reference3Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_bank [hKernelIdeal : Cert.KernelIdeal.Facts] [hPre_in_bank : Cert.Pre_in_bank.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bank m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_bank [hReferenceIdeal : Cert.ReferenceIdeal.Facts] [hPre_in_bank : Cert.Pre_in_bank.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bank m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_distinct [hKernel2Ideal : Cert.Kernel2Ideal.Facts] [hPre_distinct : Cert.Pre_distinct.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_distinct m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_distinct [hReference2Ideal : Cert.Reference2Ideal.Facts] [hPre_distinct : Cert.Pre_distinct.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_distinct m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_enough [hKernel3Ideal : Cert.Kernel3Ideal.Facts] [hPre_enough : Cert.Pre_enough.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_enough m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_enough [hReference3Ideal : Cert.Reference3Ideal.Facts] [hPre_enough : Cert.Pre_enough.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_enough m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_bank [hKernelIdeal : Cert.KernelIdeal.Facts] [hReferenceIdeal : Cert.ReferenceIdeal.Facts] [hPre_in_bank : Cert.Pre_in_bank.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bank m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_distinct [hKernel2Ideal : Cert.Kernel2Ideal.Facts] [hReference2Ideal : Cert.Reference2Ideal.Facts] [hPre_distinct : Cert.Pre_distinct.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_distinct m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_enough [hKernel3Ideal : Cert.Kernel3Ideal.Facts] [hReference3Ideal : Cert.Reference3Ideal.Facts] [hPre_enough : Cert.Pre_enough.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_enough m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_bank : Cert.Pre_in_bank.Facts) (hPre_distinct : Cert.Pre_distinct.Facts) (hPre_enough : Cert.Pre_enough.Facts),
    quiescent_Kernel (hKernel := hKernel)
    ∧ quiescent_KernelIdeal (hKernelIdeal := hKernelIdeal)
    ∧ quiescent_KernelIdeal_pre_in_bank (hKernelIdeal := hKernelIdeal) (hPre_in_bank := hPre_in_bank)
    ∧ quiescent_ReferenceIdeal (hReferenceIdeal := hReferenceIdeal)
    ∧ quiescent_ReferenceIdeal_pre_in_bank (hReferenceIdeal := hReferenceIdeal) (hPre_in_bank := hPre_in_bank)
    ∧ quiescent_Kernel2 (hKernel2 := hKernel2)
    ∧ quiescent_Kernel2Ideal (hKernel2Ideal := hKernel2Ideal)
    ∧ quiescent_Kernel2Ideal_pre_distinct (hKernel2Ideal := hKernel2Ideal) (hPre_distinct := hPre_distinct)
    ∧ quiescent_Reference2Ideal (hReference2Ideal := hReference2Ideal)
    ∧ quiescent_Reference2Ideal_pre_distinct (hReference2Ideal := hReference2Ideal) (hPre_distinct := hPre_distinct)
    ∧ quiescent_Kernel3 (hKernel3 := hKernel3)
    ∧ quiescent_Kernel3Ideal (hKernel3Ideal := hKernel3Ideal)
    ∧ quiescent_Kernel3Ideal_pre_enough (hKernel3Ideal := hKernel3Ideal) (hPre_enough := hPre_enough)
    ∧ quiescent_Reference3Ideal (hReference3Ideal := hReference3Ideal)
    ∧ quiescent_Reference3Ideal_pre_enough (hReference3Ideal := hReference3Ideal) (hPre_enough := hPre_enough)
    ∧ preserves_Kernel_KernelIdeal
    ∧ algebraic_KernelIdeal_ReferenceIdeal_pre_in_bank (hKernelIdeal := hKernelIdeal) (hReferenceIdeal := hReferenceIdeal) (hPre_in_bank := hPre_in_bank)
    ∧ preserves_Kernel2_Kernel2Ideal
    ∧ algebraic_Kernel2Ideal_Reference2Ideal_pre_distinct (hKernel2Ideal := hKernel2Ideal) (hReference2Ideal := hReference2Ideal) (hPre_distinct := hPre_distinct)
    ∧ preserves_Kernel3_Kernel3Ideal
    ∧ algebraic_Kernel3Ideal_Reference3Ideal_pre_enough (hKernel3Ideal := hKernel3Ideal) (hReference3Ideal := hReference3Ideal) (hPre_enough := hPre_enough)
-- ==== Pre_distinct.lean ====
abbrev S1024x56x32 : Shape := ⟨3, ![1024, 56, 32]⟩
abbrev S1024x1 : Shape := ⟨2, ![1024, 1]⟩
abbrev S32 : Shape := ⟨1, ![32]⟩
abbrev S1x1x32 : Shape := ⟨3, ![1, 1, 32]⟩
abbrev S_ : Shape := ⟨0, ![]⟩
abbrev S1024x56x32x1x1 : Shape := ⟨5, ![1024, 56, 32, 1, 1]⟩
abbrev S1024x1x1x56x32 : Shape := ⟨5, ![1024, 1, 1, 56, 32]⟩
abbrev S1792 : Shape := ⟨1, ![1792]⟩
abbrev S56x32 : Shape := ⟨2, ![56, 32]⟩
abbrev S1x56x32x1x1 : Shape := ⟨5, ![1, 56, 32, 1, 1]⟩
abbrev S1x1x1x56x32 : Shape := ⟨5, ![1, 1, 1, 56, 32]⟩
abbrev S1x56x32x56x32 : Shape := ⟨5, ![1, 56, 32, 56, 32]⟩
abbrev S1024x56x32x56x32 : Shape := ⟨5, ![1024, 56, 32, 56, 32]⟩

class Facts : Prop where
  bcast_S32_S1x1x32_2 : S32.BroadcastsInDim S1x1x32 (![2] : Fin 1 → Fin S1x1x32.rank)
  bcast_S1x1x32_S1024x56x32_0_1_2 : S1x1x32.BroadcastsInDim S1024x56x32 (![0, 1, 2] : Fin 3 → Fin S1024x56x32.rank)
  bcast_S_S1024x56x32 : S_.BroadcastsInDim S1024x56x32 (![] : Fin 0 → Fin S1024x56x32.rank)
  bcast_S1024x56x32_S1024x56x32x1x1_0_1_2 : S1024x56x32.BroadcastsInDim S1024x56x32x1x1 (![0, 1, 2] : Fin 3 → Fin S1024x56x32x1x1.rank)
  bcast_S1024x56x32_S1024x1x1x56x32_0_3_4 : S1024x56x32.BroadcastsInDim S1024x1x1x56x32 (![0, 3, 4] : Fin 3 → Fin S1024x1x1x56x32.rank)
  shapeCasts_S1792_S56x32 : S1792.ShapeCasts S56x32
  bcast_S56x32_S1x56x32x1x1_1_2 : S56x32.BroadcastsInDim S1x56x32x1x1 (![1, 2] : Fin 2 → Fin S1x56x32x1x1.rank)
  bcast_S56x32_S1x1x1x56x32_3_4 : S56x32.BroadcastsInDim S1x1x1x56x32 (![3, 4] : Fin 2 → Fin S1x1x1x56x32.rank)
  bcast_S1x56x32x1x1_S1x56x32x56x32_0_1_2_3_4 : S1x56x32x1x1.BroadcastsInDim S1x56x32x56x32 (![0, 1, 2, 3, 4] : Fin 5 → Fin S1x56x32x56x32.rank)
  bcast_S1x1x1x56x32_S1x56x32x56x32_0_1_2_3_4 : S1x1x1x56x32.BroadcastsInDim S1x56x32x56x32 (![0, 1, 2, 3, 4] : Fin 5 → Fin S1x56x32x56x32.rank)
  bcast_S1024x56x32x1x1_S1024x56x32x56x32_0_1_2_3_4 : S1024x56x32x1x1.BroadcastsInDim S1024x56x32x56x32 (![0, 1, 2, 3, 4] : Fin 5 → Fin S1024x56x32x56x32.rank)
  bcast_S1024x1x1x56x32_S1024x56x32x56x32_0_1_2_3_4 : S1024x1x1x56x32.BroadcastsInDim S1024x56x32x56x32 (![0, 1, 2, 3, 4] : Fin 5 → Fin S1024x56x32x56x32.rank)
  bcast_S1x56x32x56x32_S1024x56x32x56x32_0_1_2_3_4 : S1x56x32x56x32.BroadcastsInDim S1024x56x32x56x32 (![0, 1, 2, 3, 4] : Fin 5 → Fin S1024x56x32x56x32.rank)
  reducesTo_S1024x56x32x56x32_S_d0_1_2_3_4 : S1024x56x32x56x32.ReducesTo [0, 1, 2, 3, 4] S_
  h_S_ : 0 < S_.numel
  reducesTo_S1024x56x32_S_d0_1_2 : S1024x56x32.ReducesTo [0, 1, 2] S_

variable [Facts]

def fn_part1 {F : FTy → Type} [FloatOps F] (main_v4 : FVec F S1024x56x32 .f32) (main_v6 : IVec S1024x56x32 1) (main_v9 : FVec F S1024x56x32x1x1 .f32) (main_v10 : FVec F S1024x1x1x56x32 .f32) (main_v22 : IVec S1024x56x32x56x32 1) : IVec S_ 1 :=
  let main_v23 : FVec F S1024x56x32x56x32 .f32 := broadcastInDim S1024x56x32x56x32 ![0, 1, 2, 3, 4] bcast_S1024x56x32x1x1_S1024x56x32x56x32_0_1_2_3_4 main_v9
  let main_v24 : FVec F S1024x56x32x56x32 .f32 := broadcastInDim S1024x56x32x56x32 ![0, 1, 2, 3, 4] bcast_S1024x1x1x56x32_S1024x56x32x56x32_0_1_2_3_4 main_v10
  let main_v25 : IVec S1024x56x32x56x32 1 := cmpf .oeq main_v23 main_v24
  let main_v26 : IVec S1024x56x32x56x32 1 := andi main_v22 main_v25
  let main_v27 : IVec S1024x56x32x1x1 1 := broadcastInDim S1024x56x32x1x1 ![0, 1, 2] bcast_S1024x56x32_S1024x56x32x1x1_0_1_2 main_v6
  let main_v28 : IVec S1024x56x32x56x32 1 := broadcastInDim S1024x56x32x56x32 ![0, 1, 2, 3, 4] bcast_S1024x56x32x1x1_S1024x56x32x56x32_0_1_2_3_4 main_v27
  let main_v29 : IVec S1024x56x32x56x32 1 := andi main_v26 main_v28
  let main_v30 : IVec S1024x56x32x56x32 1 := noti main_v29
  let main_c : IVec S_ 1 := constantI S_ 1 1#1
  let main_v31 : IVec S_ 1 := (fun x v => Host.reduce IntOp.andi x v reducesTo_S1024x56x32x56x32_S_d0_1_2_3_4 h_S_) main_v30 main_c
  let main_v32 : IVec S1024x56x32 1 := noti main_v6
  let main_cst_0 : FVec F S_ .f32 := constant S_ .f32 0x4F6E6B28#32
  let main_v33 : FVec F S1024x56x32 .f32 := broadcastInDim S1024x56x32 ![] bcast_S_S1024x56x32 main_cst_0
  let main_v34 : IVec S1024x56x32 1 := cmpf .ole main_v4 main_v33
  let main_v35 : IVec S1024x56x32 1 := ori main_v32 main_v34
  let main_c_1 : IVec S_ 1 := constantI S_ 1 1#1
  let main_v36 : IVec S_ 1 := (fun x v => Host.reduce IntOp.andi x v reducesTo_S1024x56x32_S_d0_1_2 h_S_) main_v35 main_c_1
  let main_v37 : IVec S_ 1 := andi main_v31 main_v36
  main_v37

def fn {F : FTy → Type} [FloatOps F] (main_arg0 : FVec F S1024x56x32 .f32) (main_arg1 : FVec F S1024x56x32 .f32) (main_arg2 : FVec F S1024x56x32 .f32) (main_arg3 : FVec F S1024x1 .f32) : IVec S_ 1 :=
  let main_v0 : IVec S32 32 := iotaInDim S32 32 0
  let main_v1 : FVec F S32 .f32 := sitofp .f32 main_v0
  let main_v2 : FVec F S1x1x32 .f32 := broadcastInDim S1x1x32 ![2] bcast_S32_S1x1x32_2 main_v1
  let main_v3 : FVec F S1024x56x32 .f32 := broadcastInDim S1024x56x32 ![0, 1, 2] bcast_S1x1x32_S1024x56x32_0_1_2 main_v2
  let main_v4 : FVec F S1024x56x32 .f32 := addf main_arg2 main_v3
  let main_cst : FVec F S_ .f32 := constant S_ .f32 0xFF800000#32
  let main_v5 : FVec F S1024x56x32 .f32 := broadcastInDim S1024x56x32 ![] bcast_S_S1024x56x32 main_cst
  let main_v6 : IVec S1024x56x32 1 := cmpf .ogt main_arg0 main_v5
  let main_v7 : FVec F S1024x56x32x1x1 .f32 := broadcastInDim S1024x56x32x1x1 ![0, 1, 2] bcast_S1024x56x32_S1024x56x32x1x1_0_1_2 main_arg0
  let main_v8 : FVec F S1024x1x1x56x32 .f32 := broadcastInDim S1024x1x1x56x32 ![0, 3, 4] bcast_S1024x56x32_S1024x1x1x56x32_0_3_4 main_arg0
  let main_v9 : FVec F S1024x56x32x1x1 .f32 := broadcastInDim S1024x56x32x1x1 ![0, 1, 2] bcast_S1024x56x32_S1024x56x32x1x1_0_1_2 main_v4
  let main_v10 : FVec F S1024x1x1x56x32 .f32 := broadcastInDim S1024x1x1x56x32 ![0, 3, 4] bcast_S1024x56x32_S1024x1x1x56x32_0_3_4 main_v4
  let main_v11 : IVec S1792 32 := iotaInDim S1792 32 0
  let main_v12 : IVec S56x32 32 := shapeCast S56x32 main_v11 shapeCasts_S1792_S56x32
  let main_v13 : IVec S1x56x32x1x1 32 := broadcastInDim S1x56x32x1x1 ![1, 2] bcast_S56x32_S1x56x32x1x1_1_2 main_v12
  let main_v14 : IVec S1x1x1x56x32 32 := broadcastInDim S1x1x1x56x32 ![3, 4] bcast_S56x32_S1x1x1x56x32_3_4 main_v12
  let main_v15 : IVec S1x56x32x56x32 32 := broadcastInDim S1x56x32x56x32 ![0, 1, 2, 3, 4] bcast_S1x56x32x1x1_S1x56x32x56x32_0_1_2_3_4 main_v13
  let main_v16 : IVec S1x56x32x56x32 32 := broadcastInDim S1x56x32x56x32 ![0, 1, 2, 3, 4] bcast_S1x1x1x56x32_S1x56x32x56x32_0_1_2_3_4 main_v14
  let main_v17 : IVec S1x56x32x56x32 1 := cmpi .ne main_v15 main_v16
  let main_v18 : FVec F S1024x56x32x56x32 .f32 := broadcastInDim S1024x56x32x56x32 ![0, 1, 2, 3, 4] bcast_S1024x56x32x1x1_S1024x56x32x56x32_0_1_2_3_4 main_v7
  let main_v19 : FVec F S1024x56x32x56x32 .f32 := broadcastInDim S1024x56x32x56x32 ![0, 1, 2, 3, 4] bcast_S1024x1x1x56x32_S1024x56x32x56x32_0_1_2_3_4 main_v8
  let main_v20 : IVec S1024x56x32x56x32 1 := cmpf .oeq main_v18 main_v19
  let main_v21 : IVec S1024x56x32x56x32 1 := broadcastInDim S1024x56x32x56x32 ![0, 1, 2, 3, 4] bcast_S1x56x32x56x32_S1024x56x32x56x32_0_1_2_3_4 main_v17
  let main_v22 : IVec S1024x56x32x56x32 1 := andi main_v21 main_v20
  fn_part1 (F := F) main_v4 main_v6 main_v9 main_v10 main_v22
-- ==== Pre_enough.lean ====
abbrev S99x1024x32 : Shape := ⟨3, ![99, 1024, 32]⟩
abbrev S1024x99x32 : Shape := ⟨3, ![1024, 99, 32]⟩
abbrev S1024x3168 : Shape := ⟨2, ![1024, 3168]⟩
abbrev S_ : Shape := ⟨0, ![]⟩
abbrev S1024 : Shape := ⟨1, ![1024]⟩

class Facts : Prop where
  transposes_S99x1024x32_S1024x99x32_1_0_2 : S99x1024x32.Transposes [1, 0, 2] S1024x99x32
  shapeCasts_S1024x99x32_S1024x3168 : S1024x99x32.ShapeCasts S1024x3168
  bcast_S_S1024x3168 : S_.BroadcastsInDim S1024x3168 (![] : Fin 0 → Fin S1024x3168.rank)
  natLt_1_32 : 1 < 32
  reducesTo_S1024x3168_S1024_d1 : S1024x3168.ReducesTo [1] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S99x1024x32 .f32) : IVec S_ 1 :=
  let main_v0 : FVec F S1024x99x32 .f32 := (transpose S1024x99x32 [1, 0, 2] · transposes_S99x1024x32_S1024x99x32_1_0_2) main_arg0
  let main_v1 : FVec F S1024x3168 .f32 := shapeCast S1024x3168 main_v0 shapeCasts_S1024x99x32_S1024x3168
  let main_cst : FVec F S_ .f32 := constant S_ .f32 0xFF800000#32
  let main_v2 : FVec F S1024x3168 .f32 := broadcastInDim S1024x3168 ![] bcast_S_S1024x3168 main_cst
  let main_v3 : IVec S1024x3168 1 := cmpf .ogt main_v1 main_v2
  let main_v4 : IVec S1024x3168 32 := (extui 32 · natLt_1_32) main_v3
  let main_c : IVec S_ 32 := constantI S_ 32 0#32
  let main_v5 : IVec S1024 32 := (fun x v => Host.reduce IntOp.addi x v reducesTo_S1024x3168_S1024_d1 h_S_) main_v4 main_c
  let main_c_0 : IVec S_ 32 := constantI S_ 32 51#32
  let main_v6 : IVec S1024 32 := broadcastInDim S1024 ![] bcast_S_S1024 main_c_0
  let main_v7 : IVec S1024 1 := cmpi .sge main_v5 main_v6
  let main_c_1 : IVec S_ 1 := constantI S_ 1 1#1
  let main_v8 : IVec S_ 1 := (fun x v => Host.reduce IntOp.andi x v reducesTo_S1024_S_d0 h_S_) main_v7 main_c_1
  main_v8
-- ==== Pre_in_bank.lean ====
abbrev S1024x128 : Shape := ⟨2, ![1024, 128]⟩
abbrev S1024 : Shape := ⟨1, ![1024]⟩
abbrev S100000x128 : Shape := ⟨2, ![100000, 128]⟩
abbrev S100x128 : Shape := ⟨2, ![100, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x128 .f32) (main_arg1 : IVec S1024 32) (main_arg2 : FVec F S100000x128 .f32) (main_arg3 : FVec F S100x128 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x128 : Shape := ⟨2, ![1024, 128]⟩
abbrev S1024 : Shape := ⟨1, ![1024]⟩
abbrev S100000x128 : Shape := ⟨2, ![100000, 128]⟩
abbrev S100x128 : Shape := ⟨2, ![100, 128]⟩
abbrev S_ : Shape := ⟨0, ![]⟩
abbrev S100352x128 : Shape := ⟨2, ![100352, 128]⟩
abbrev S98x1024x128 : Shape := ⟨3, ![98, 1024, 128]⟩
abbrev S128x128 : Shape := ⟨2, ![128, 128]⟩
abbrev S1024x1 : Shape := ⟨2, ![1024, 1]⟩
abbrev S1x1x1024 : Shape := ⟨3, ![1, 1, 1024]⟩
abbrev S1024x101376 : Shape := ⟨2, ![1024, 101376]⟩
abbrev S99x1024x32 : Shape := ⟨3, ![99, 1024, 32]⟩
abbrev S99x1024x1 : Shape := ⟨3, ![99, 1024, 1]⟩
abbrev S1x1024x128 : Shape := ⟨3, ![1, 1024, 128]⟩
abbrev S1024x1024 : Shape := ⟨2, ![1024, 1024]⟩
abbrev S1x1024x32 : Shape := ⟨3, ![1, 1024, 32]⟩
abbrev S1x1024x1 : Shape := ⟨3, ![1, 1024, 1]⟩
abbrev S128 : Shape := ⟨1, ![128]⟩
abbrev S128x1 : Shape := ⟨2, ![128, 1]⟩
abbrev S1x1024 : Shape := ⟨2, ![1, 1024]⟩
abbrev S1024x32 : Shape := ⟨2, ![1024, 32]⟩

abbrev nBuf : Space → Nat
  | .hbm => 17
  | .vmem => 13
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S100x128, .f32⟩
  | .hbm, ⟨4, _⟩ => ⟨S_, .i32⟩
  | .hbm, ⟨5, _⟩ => ⟨S_, .f32⟩
  | .hbm, ⟨6, _⟩ => ⟨S100352x128, .f32⟩
  | .hbm, ⟨7, _⟩ => ⟨S98x1024x128, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S1024x1, .i32⟩
  | .hbm, ⟨12, _⟩ => ⟨S1x1x1024, .i32⟩
  | .hbm, ⟨13, _⟩ => ⟨S1024x101376, .f32⟩
  | .hbm, ⟨14, _⟩ => ⟨S99x1024x32, .f32⟩
  | .hbm, ⟨15, _⟩ => ⟨S99x1024x1, .f32⟩
  | .hbm, ⟨16, _⟩ => ⟨S1024x1, .f32⟩
  | .local _ .vmem, ⟨0, _⟩ => ⟨S1024x128, .f32⟩
  | .local _ .vmem, ⟨1, _⟩ => ⟨S1x1024x128, .f32⟩
  | .local _ .vmem, ⟨2, _⟩ => ⟨S1x1024x128, .f32⟩
  | .local _ .vmem, ⟨3, _⟩ => ⟨S128x128, .f32⟩
  | .local _ .vmem, ⟨4, _⟩ => ⟨S1024x1, .i32⟩
  | .local _ .vmem, ⟨5, _⟩ => ⟨S1x1x1024, .i32⟩
  | .local _ .vmem, ⟨6, _⟩ => ⟨S1024x1024, .f32⟩
  | .local _ .vmem, ⟨7, _⟩ => ⟨S1024x1024, .f32⟩
  | .local _ .vmem, ⟨8, _⟩ => ⟨S1x1024x32, .f32⟩
  | .local _ .vmem, ⟨9, _⟩ => ⟨S1x1024x32, .f32⟩
  | .local _ .vmem, ⟨10, _⟩ => ⟨S1x1024x1, .f32⟩
  | .local _ .vmem, ⟨11, _⟩ => ⟨S1x1024x1, .f32⟩
  | .local _ .vmem, ⟨12, _⟩ => ⟨S1024x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![99], ![false]⟩

def k0_cond1 (i : grid0.Coords) : BitVec 1 :=
  let arg0 : BitVec 32 := BitVec.ofNat 32 (i 0).val
  let c98_i32 : BitVec 32 := 98#32
  let v25 : BitVec 1 := Scalar.cmpi .slt arg0 c98_i32
  let v26 : BitVec 32 := Scalar.extui v25
  let c0_i32 : BitVec 32 := 0#32
  let v27 : BitVec 1 := Scalar.cmpi .ne v26 c0_i32
  v27

def k0_cond2 (i : grid0.Coords) : BitVec 1 :=
  let arg0 : BitVec 32 := BitVec.ofNat 32 (i 0).val
  let c98_i32_8 : BitVec 32 := 98#32
  let v28 : BitVec 1 := Scalar.cmpi .eq arg0 c98_i32_8
  let v29 : BitVec 32 := Scalar.extui v28
  let c0_i32_9 : BitVec 32 := 0#32
  let v30 : BitVec 1 := Scalar.cmpi .ne v29 c0_i32_9
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1024x128 : Shape := ⟨2, ![1024, 128]⟩
abbrev S1024 : Shape := ⟨1, ![1024]⟩
abbrev S100000x128 : Shape := ⟨2, ![100000, 128]⟩
abbrev S100x128 : Shape := ⟨2, ![100, 128]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S128x100000 : Shape := ⟨2, ![128, 100000]⟩
abbrev S1024x100000 : Shape := ⟨2, ![1024, 100000]⟩
abbrev S100 : Shape := ⟨1, ![100]⟩
abbrev S100x1 : Shape := ⟨2, ![100, 1]⟩
abbrev S128x100 : Shape := ⟨2, ![128, 100]⟩
abbrev S100000x100 : Shape := ⟨2, ![100000, 100]⟩
abbrev S1x100000 : Shape := ⟨2, ![1, 100000]⟩
abbrev S1x1024 : Shape := ⟨2, ![1, 1024]⟩
abbrev S1024x1024 : Shape := ⟨2, ![1024, 1024]⟩
abbrev S1024x100352 : Shape := ⟨2, ![1024, 100352]⟩
abbrev S1024x101376 : Shape := ⟨2, ![1024, 101376]⟩
abbrev S1024x99x32x32 : Shape := ⟨4, ![1024, 99, 32, 32]⟩
abbrev S1024x99x32 : Shape := ⟨3, ![1024, 99, 32]⟩
abbrev S99x1024x32 : Shape := ⟨3, ![99, 1024, 32]⟩
abbrev S100352x128 : Shape := ⟨2, ![100352, 128]⟩
abbrev S101376x128 : Shape := ⟨2, ![101376, 128]⟩
abbrev S101376 : Shape := ⟨1, ![101376]⟩
abbrev S101376x1 : Shape := ⟨2, ![101376, 1]⟩
abbrev S101376x100 : Shape := ⟨2, ![101376, 100]⟩
abbrev S99x1024x1 : Shape := ⟨3, ![99, 1024, 1]⟩

abbrev nBuf : Space → Nat
  | .hbm => 161
  | .vmem => 0
  | .smem => 0
  | _ => 0

abbrev hbmTy0_0 (i : Nat) : BufTy := match i % 128 with
  | 0 => ⟨S1024x128, .f32⟩
  | 1 => ⟨S1024, .i32⟩
  | 2 => ⟨S100000x128, .f32⟩
  | 3 => ⟨S100x128, .f32⟩
  | 4 => ⟨S1024x128, .f32⟩
  | 5 => ⟨S_, .f32⟩
  | 6 => ⟨S1024, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x128, .f32⟩
  | 13 => ⟨S1024x128, .f32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S100000x128, .f32⟩
  | 23 => ⟨S100000x128, .f32⟩
  | 24 => ⟨S_, .f32⟩
  | 25 => ⟨S100000, .f32⟩
  | 26 => ⟨S100000x1, .f32⟩
  | 27 => ⟨S100000x1, .f32⟩
  | 28 => ⟨S_, .f32⟩
  | 29 => ⟨S100000x1, .f32⟩
  | 30 => ⟨S100000x1, .f32⟩
  | 31 => ⟨S100000x128, .f32⟩
  | 32 => ⟨S100000x128, .f32⟩
  | 33 => ⟨S128x100000, .f32⟩
  | 34 => ⟨S1024x100000, .f32⟩
  | 35 => ⟨S100x128, .f32⟩
  | 36 => ⟨S_, .f32⟩
  | 37 => ⟨S100, .f32⟩
  | 38 => ⟨S100x1, .f32⟩
  | 39 => ⟨S100x1, .f32⟩
  | 40 => ⟨S_, .f32⟩
  | 41 => ⟨S100x1, .f32⟩
  | 42 => ⟨S100x1, .f32⟩
  | 43 => ⟨S100x128, .f32⟩
  | 44 => ⟨S100x128, .f32⟩
  | 45 => ⟨S100000x128, .f32⟩
  | 46 => ⟨S_, .f32⟩
  | 47 => ⟨S100000, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S128x100, .f32⟩
  | 56 => ⟨S100000x100, .f32⟩
  | 57 => ⟨S100000x100, .i32⟩
  | 58 => ⟨S_, .f32⟩
  | 59 => ⟨S_, .i32⟩
  | 60 => ⟨S100000, .f32⟩
  | 61 => ⟨S100000, .i32⟩
  | 62 => ⟨S_, .i32⟩
  | 63 => ⟨S100000, .i32⟩
  | 64 => ⟨S1024, .i32⟩
  | 65 => ⟨S_, .i32⟩
  | 66 => ⟨S1024, .i32⟩
  | 67 => ⟨S1024, .i1⟩
  | 68 => ⟨S_, .i32⟩
  | 69 => ⟨S1024, .i32⟩
  | 70 => ⟨S1024, .i32⟩
  | 71 => ⟨S1024, .i32⟩
  | 72 => ⟨S1024x1, .i32⟩
  | 73 => ⟨S100000, .i32⟩
  | 74 => ⟨S_, .i32⟩
  | 75 => ⟨S100000, .i32⟩
  | 76 => ⟨S100000, .i1⟩
  | 77 => ⟨S1x100000, .i1⟩
  | 78 => ⟨S_, .f32⟩
  | 79 => ⟨S_, .f32⟩
  | 80 => ⟨S1024x100000, .i1⟩
  | 81 => ⟨S1024x100000, .f32⟩
  | 82 => ⟨S1024x100000, .f32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S1024, .i32⟩
  | 92 => ⟨S1024, .i32⟩
  | 93 => ⟨S1024, .i1⟩
  | 94 => ⟨S1x1024, .i1⟩
  | 95 => ⟨S_, .i32⟩
  | 96 => ⟨S1024, .i32⟩
  | 97 => ⟨S1024, .i1⟩
  | 98 => ⟨S_, .i32⟩
  | 99 => ⟨S1024, .i32⟩
  | 100 => ⟨S1024, .i32⟩
  | 101 => ⟨S1024, .i32⟩
  | 102 => ⟨S1024x1, .i32⟩
  | 103 => ⟨S1024x1024, .f32⟩
  | 104 => ⟨S_, .f32⟩
  | 105 => ⟨S_, .f32⟩
  | 106 => ⟨S1024x1024, .i1⟩
  | 107 => ⟨S1024x1024, .f32⟩
  | 108 => ⟨S1024x1024, .f32⟩
  | 109 => ⟨S_, .f32⟩
  | 110 => ⟨S_, .f32⟩
  | 111 => ⟨S1024x100352, .f32⟩
  | 112 => ⟨S1024x101376, .f32⟩
  | 113 => ⟨S1024x99x32x32, .f32⟩
  | 114 => ⟨S_, .f32⟩
  | 115 => ⟨S1024x99x32, .f32⟩
  | 116 => ⟨S99x1024x32, .f32⟩
  | 117 => ⟨S_, .i32⟩
  | 118 => ⟨S_, .f32⟩
  | 119 => ⟨S100352x128, .f32⟩
  | 120 => ⟨S101376x128, .f32⟩
  | 121 => ⟨S100x128, .f32⟩
  | 122 => ⟨S_, .f32⟩
  | 123 => ⟨S100, .f32⟩
  | 124 => ⟨S100x1, .f32⟩
  | 125 => ⟨S100x1, .f32⟩
  | 126 => ⟨S_, .f32⟩
  | 127 => ⟨S100x1, .f32⟩
  | _ => ⟨S1024x128, .f32⟩

abbrev hbmTy0_1 (i : Nat) : BufTy := match i % 128 with
  | 0 => ⟨S100x1, .f32⟩
  | 1 => ⟨S100x128, .f32⟩
  | 2 => ⟨S100x128, .f32⟩
  | 3 => ⟨S101376x128, .f32⟩
  | 4 => ⟨S_, .f32⟩
  | 5 => ⟨S101376, .f32⟩
  | 6 => ⟨S101376x1, .f32⟩
  | 7 => ⟨S101376x1, .f32⟩
  | 8 => ⟨S_, .f32⟩
  | 9 => ⟨S101376x1, .f32⟩
  | 10 => ⟨S101376x1, .f32⟩
  | 11 => ⟨S101376x128, .f32⟩
  | 12 => ⟨S101376x128, .f32⟩
  | 13 => ⟨S128x100, .f32⟩
  | 14 => ⟨S101376x100, .f32⟩
  | 15 => ⟨S101376x100, .i32⟩
  | 16 => ⟨S_, .f32⟩
  | 17 => ⟨S_, .i32⟩
  | 18 => ⟨S101376, .f32⟩
  | 19 => ⟨S101376, .i32⟩
  | 20 => ⟨S101376, .f32⟩
  | 21 => ⟨S99x1024x1, .f32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1024, .i32⟩
  | 31 => ⟨S1024, .f32⟩
  | 32 => ⟨S1024x1, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call2_v0 : Ref sig .tc := ⟨.hbm, 35, rfl⟩
abbrev main_call2_cst : Ref sig .tc := ⟨.hbm, 36, rfl⟩
abbrev main_call2_v1 : Ref sig .tc := ⟨.hbm, 37, rfl⟩
abbrev main_call2_v2 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call3_v0 : Ref sig .tc := ⟨.hbm, 45, rfl⟩
abbrev main_call3_cst : Ref sig .tc := ⟨.hbm, 46, rfl⟩
abbrev main_call3_v1 : Ref sig .tc := ⟨.hbm, 47, rfl⟩
abbrev main_call3_v2 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call4_v0 : Ref sig .tc := ⟨.hbm, 57, rfl⟩
abbrev main_call4_cst : Ref sig .tc := ⟨.hbm, 58, rfl⟩
abbrev main_call4_c : Ref sig .tc := ⟨.hbm, 59, rfl⟩
abbrev main_call4_v1_0 : Ref sig .tc := ⟨.hbm, 60, rfl⟩
abbrev main_v31 : Ref sig .tc := ⟨.hbm, 61, rfl⟩
abbrev main_c_4 : Ref sig .tc := ⟨.hbm, 62, rfl⟩
abbrev main_v32 : Ref sig .tc := ⟨.hbm, 63, rfl⟩
abbrev main_v33 : Ref sig .tc := ⟨.hbm, 64, rfl⟩
abbrev main_c_5 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v44 : Ref sig .tc := ⟨.hbm, 82, rfl⟩
abbrev main_c_9 : Ref sig .tc := ⟨.hbm, 83, rfl⟩
abbrev main_v45 : Ref sig .tc := ⟨.hbm, 84, rfl⟩
abbrev main_v46 : Ref sig .tc := ⟨.hbm, 85, rfl⟩
abbrev main_c_10 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_11 : Ref sig .tc := ⟨.hbm, 95, rfl⟩
abbrev main_v55 : Ref sig .tc := ⟨.hbm, 96, rfl⟩
abbrev main_v56 : Ref sig .tc := ⟨.hbm, 97, rfl⟩
abbrev main_c_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_13 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v62 : Ref sig .tc := ⟨.hbm, 108, rfl⟩
abbrev main_cst_14 : Ref sig .tc := ⟨.hbm, 109, rfl⟩
abbrev main_call7_v0 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_15 : Ref sig .tc := ⟨.hbm, 114, rfl⟩
abbrev main_v66 : Ref sig .tc := ⟨.hbm, 115, rfl⟩
abbrev main_v67 : Ref sig .tc := ⟨.hbm, 116, rfl⟩
abbrev main_c_16 : Ref sig .tc := ⟨.hbm, 117, rfl⟩
abbrev main_call8_v0 : Ref sig .tc := ⟨.hbm, 118, rfl⟩
abbrev main_v68 : Ref sig .tc := ⟨.hbm, 119, rfl⟩
abbrev main_v69 : Ref sig .tc := ⟨.hbm, 120, rfl⟩
abbrev main_call9_v0 : Ref sig .tc := ⟨.hbm, 121, rfl⟩
abbrev main_call9_cst : Ref sig .tc := ⟨.hbm, 122, rfl⟩
abbrev main_call9_v1 : Ref sig .tc := ⟨.hbm, 123, rfl⟩
abbrev main_call9_v2 : Ref sig .tc := ⟨.hbm, 124, rfl⟩
abbrev main_v70 : Ref sig .tc := ⟨.hbm, 125, rfl⟩
abbrev main_cst_17 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_call10_v0 : Ref sig .tc := ⟨.hbm, 131, rfl⟩
abbrev main_call10_cst : Ref sig .tc := ⟨.hbm, 132, rfl⟩
abbrev main_call10_v1 : Ref sig .tc := ⟨.hbm, 133, rfl⟩
abbrev main_call10_v2 : Ref sig .tc := ⟨.hbm, 134, rfl⟩
abbrev main_v75 : Ref sig .tc := ⟨.hbm, 135, rfl⟩
abbrev main_cst_18 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call11_v0 : Ref sig .tc := ⟨.hbm, 143, rfl⟩
abbrev main_call11_cst : Ref sig .tc := ⟨.hbm, 144, rfl⟩
abbrev main_call11_c : Ref sig .tc := ⟨.hbm, 145, rfl⟩
abbrev main_call11_v1_0 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_c_19 : Ref sig .tc := ⟨.hbm, 150, rfl⟩
abbrev main_v85 : Ref sig .tc := ⟨.hbm, 151, rfl⟩
abbrev main_v86 : Ref sig .tc := ⟨.hbm, 152, rfl⟩
abbrev main_c_20 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩

abbrev nD : Nat := 1
abbrev τ : Topo := Topo.v7x

variable {F : FTy → Type} [FloatOps F]
-- ==== Kernel2.lean ====
abbrev S1024x56x32 : Shape := ⟨3, ![1024, 56, 32]⟩
abbrev S1024x1 : Shape := ⟨2, ![1024, 1]⟩
abbrev S1x1 : Shape := ⟨2, ![1, 1]⟩
abbrev S8x56x32 : Shape := ⟨3, ![8, 56, 32]⟩
abbrev S8x1 : Shape := ⟨2, ![8, 1]⟩
abbrev S8x1x1 : Shape := ⟨3, ![8, 1, 1]⟩
abbrev S8 : Shape := ⟨1, ![8]⟩
abbrev S1x8x1x1 : Shape := ⟨4, ![1, 8, 1, 1]⟩
abbrev S1 : Shape := ⟨1, ![1]⟩
abbrev S1x1x1x1 : Shape := ⟨4, ![1, 1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S1024x56x32, .f32⟩
  | .hbm, ⟨1, _⟩ => ⟨S1024x56x32, .f32⟩
  | .hbm, ⟨2, _⟩ => ⟨S1024x56x32, .f32⟩
  | .hbm, ⟨3, _⟩ => ⟨S1024x1, .f32⟩
  | .hbm, ⟨4, _⟩ => ⟨S1x1, .f32⟩
  | .local _ .vmem, ⟨0, _⟩ => ⟨S8x56x32, .f32⟩
  | .local _ .vmem, ⟨1, _⟩ => ⟨S8x56x32, .f32⟩
  | .local _ .vmem, ⟨2, _⟩ => ⟨S8x56x32, .f32⟩
  | .local _ .vmem, ⟨3, _⟩ => ⟨S8x56x32, .f32⟩
  | .local _ .vmem, ⟨4, _⟩ => ⟨S8x56x32, .f32⟩
  | .local _ .vmem, ⟨5, _⟩ => ⟨S8x56x32, .f32⟩
  | .local _ .vmem, ⟨6, _⟩ => ⟨S8x1, .f32⟩
  | .local _ .vmem, ⟨7, _⟩ => ⟨S8x1, .f32⟩
  | .local _ .vmem, ⟨8, _⟩ => ⟨S1x1, .f32⟩
  | _, _ => ⟨S1024x56x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x56x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x56x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x56x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S1024x56x32 : Shape := ⟨3, ![1024, 56, 32]⟩
abbrev S1024x1 : Shape := ⟨2, ![1024, 1]⟩
abbrev S32 : Shape := ⟨1, ![32]⟩
abbrev S1x1x32 : Shape := ⟨3, ![1, 1, 32]⟩
abbrev S1024x56x32x1x1 : Shape := ⟨5, ![1024, 56, 32, 1, 1]⟩
abbrev S1024x1x1x56x32 : Shape := ⟨5, ![1024, 1, 1, 56, 32]⟩
abbrev S1024x56x32x56x32 : Shape := ⟨5, ![1024, 56, 32, 56, 32]⟩
abbrev S_ : Shape := ⟨0, ![]⟩
abbrev S1024x1x1 : Shape := ⟨3, ![1024, 1, 1]⟩
abbrev S1024 : Shape := ⟨1, ![1024]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S1024x56x32, .f32⟩
  | .hbm, ⟨1, _⟩ => ⟨S1024x56x32, .f32⟩
  | .hbm, ⟨2, _⟩ => ⟨S1024x56x32, .f32⟩
  | .hbm, ⟨3, _⟩ => ⟨S1024x1, .f32⟩
  | .hbm, ⟨4, _⟩ => ⟨S32, .i32⟩
  | .hbm, ⟨5, _⟩ => ⟨S32, .f32⟩
  | .hbm, ⟨6, _⟩ => ⟨S1x1x32, .f32⟩
  | .hbm, ⟨7, _⟩ => ⟨S1024x56x32, .f32⟩
  | .hbm, ⟨8, _⟩ => ⟨S1024x56x32, .f32⟩
  | .hbm, ⟨9, _⟩ => ⟨S1024x56x32x1x1, .f32⟩
  | .hbm, ⟨10, _⟩ => ⟨S1024x1x1x56x32, .f32⟩
  | .hbm, ⟨11, _⟩ => ⟨S1024x56x32x1x1, .f32⟩
  | .hbm, ⟨12, _⟩ => ⟨S1024x1x1x56x32, .f32⟩
  | .hbm, ⟨13, _⟩ => ⟨S1024x56x32x56x32, .f32⟩
  | .hbm, ⟨14, _⟩ => ⟨S1024x56x32x56x32, .f32⟩
  | .hbm, ⟨15, _⟩ => ⟨S1024x56x32x56x32, .i1⟩
  | .hbm, ⟨16, _⟩ => ⟨S1024x56x32x56x32, .f32⟩
  | .hbm, ⟨17, _⟩ => ⟨S1024x56x32x56x32, .f32⟩
  | .hbm, ⟨18, _⟩ => ⟨S1024x56x32x56x32, .i1⟩
  | .hbm, ⟨19, _⟩ => ⟨S1024x56x32x56x32, .f32⟩
  | .hbm, ⟨20, _⟩ => ⟨S1024x56x32x56x32, .f32⟩
  | .hbm, ⟨21, _⟩ => ⟨S1024x56x32x56x32, .i1⟩
  | .hbm, ⟨22, _⟩ => ⟨S1024x56x32x56x32, .i1⟩
  | .hbm, ⟨23, _⟩ => ⟨S1024x56x32x56x32, .i1⟩
  | .hbm, ⟨24, _⟩ => ⟨S1024x56x32x56x32, .i32⟩
  | .hbm, ⟨25, _⟩ => ⟨S_, .i32⟩
  | .hbm, ⟨26, _⟩ => ⟨S1024x56x32, .i32⟩
  | .hbm, ⟨27, _⟩ => ⟨S_, .i32⟩
  | .hbm, ⟨28, _⟩ => ⟨S1024x56x32, .i32⟩
  | .hbm, ⟨29, _⟩ => ⟨S1024x56x32, .i1⟩
  | .hbm, ⟨30, _⟩ => ⟨S1024x1x1, .f32⟩
  | .hbm, ⟨31, _⟩ => ⟨S1024x56x32, .f32⟩
  | .hbm, ⟨32, _⟩ => ⟨S1024x56x32, .i1⟩
  | .hbm, ⟨33, _⟩ => ⟨S_, .f32⟩
  | .hbm, ⟨34, _⟩ => ⟨S1024x56x32, .f32⟩
  | .hbm, ⟨35, _⟩ => ⟨S1024x56x32, .f32⟩
  | .hbm, ⟨36, _⟩ => ⟨S1024x56x32, .f32⟩
  | .hbm, ⟨37, _⟩ => ⟨S_, .f32⟩
  | .hbm, ⟨38, _⟩ => ⟨S_, .f32⟩
  | .hbm, ⟨39, _⟩ => ⟨S1024x56x32, .f32⟩
  | .hbm, ⟨40, _⟩ => ⟨S1024x56x32, .f32⟩
  | .hbm, ⟨41, _⟩ => ⟨S_, .f32⟩
  | .hbm, ⟨42, _⟩ => ⟨S1024, .f32⟩
  | .hbm, ⟨43, _⟩ => ⟨S1024x56x32, .i1⟩
  | .hbm, ⟨44, _⟩ => ⟨S_, .f32⟩
  | .hbm, ⟨45, _⟩ => ⟨S_, .f32⟩
  | .hbm, ⟨46, _⟩ => ⟨S1024x56x32, .f32⟩
  | .hbm, ⟨47, _⟩ => ⟨S1024x56x32, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1x1, .f32⟩
  | _, _ => ⟨S1024x56x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel3.lean ====
abbrev S99x1024x32 : Shape := ⟨3, ![99, 1024, 32]⟩
abbrev S1024x99x32 : Shape := ⟨3, ![1024, 99, 32]⟩
abbrev S1024x3168 : Shape := ⟨2, ![1024, 3168]⟩
abbrev S1024x56 : Shape := ⟨2, ![1024, 56]⟩
abbrev S1024 : Shape := ⟨1, ![1024]⟩
abbrev S1024x1 : Shape := ⟨2, ![1024, 1]⟩

abbrev nBuf : Space → Nat
  | .hbm => 4
  | .vmem => 3
  | .smem => 0
  | _ => 0

abbrev bufTy : (tb : Table) → Fin (tcTables nBuf tb) → BufTy
  | .hbm, ⟨0, _⟩ => ⟨S99x1024x32, .f32⟩
  | .hbm, ⟨1, _⟩ => ⟨S1024x99x32, .f32⟩
  | .hbm, ⟨2, _⟩ => ⟨S1024x3168, .f32⟩
  | .hbm, ⟨3, _⟩ => ⟨S1024x56, .f32⟩
  | .local _ .vmem, ⟨0, _⟩ => ⟨S1024x3168, .f32⟩
  | .local _ .vmem, ⟨1, _⟩ => ⟨S1024x56, .f32⟩
  | .local _ .vmem, ⟨2, _⟩ => ⟨S1024x3168, .f32⟩
  | _, _ => ⟨S99x1024x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x3168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel3Ideal.lean ====
variable {F : FTy → Type} [FloatOps F] [Named F]
def κ : String → Option EReal := fun
  | "mask" => some ⊥
  | _ => none
-- ==== Reference3Ideal.lean ====
abbrev S99x1024x32 : Shape := ⟨3, ![99, 1024, 32]⟩
abbrev S1024x99x32 : Shape := ⟨3, ![1024, 99, 32]⟩
abbrev S1024x3168 : Shape := ⟨2, ![1024, 3168]⟩
abbrev S3168 : Shape := ⟨1, ![3168]⟩
abbrev S1024x3168x1 : Shape := ⟨3, ![1024, 3168, 1]⟩
abbrev S1024x1x3168 : Shape := ⟨3, ![1024, 1, 3168]⟩
abbrev S1024x3168x3168 : Shape := ⟨3, ![1024, 3168, 3168]⟩
abbrev S1x1x3168 : Shape := ⟨3, ![1, 1, 3168]⟩
abbrev S1x3168x1 : Shape := ⟨3, ![1, 3168, 1]⟩
abbrev S1x3168x3168 : Shape := ⟨3, ![1, 3168, 3168]⟩
abbrev S_ : Shape := ⟨0, ![]⟩
abbrev S51 : Shape := ⟨1, ![51]⟩
abbrev S1x51x1 : Shape := ⟨3, ![1, 51, 1]⟩
abbrev S1024x51x3168 : Shape := ⟨3, ![1024, 51, 3168]⟩
abbrev S1024x51 : Shape := ⟨2, ![1024, 51]⟩
abbrev S1024x5 : Shape := ⟨2, ![1024, 5]⟩
abbrev S1024x56 : Shape := ⟨2, ![1024, 56]⟩

abbrev nBuf : Space → Nat
  | .hbm => 41
  | .vmem => 0
  | .smem => 0
  | _ => 0

abbrev bufTy : (tb : Table) → Fin (tcTables nBuf tb) → BufTy
  | .hbm, ⟨0, _⟩ => ⟨S99x1024x32, .f32⟩
  | .hbm, ⟨1, _⟩ => ⟨S1024x99x32, .f32⟩
  | .hbm, ⟨2, _⟩ => ⟨S1024x3168, .f32⟩
  | .hbm, ⟨3, _⟩ => ⟨S3168, .i32⟩
  | .hbm, ⟨4, _⟩ => ⟨S1024x3168x1, .f32⟩
  | .hbm, ⟨5, _⟩ => ⟨S1024x1x3168, .f32⟩
  | .hbm, ⟨6, _⟩ => ⟨S1024x3168x3168, .f32⟩
  | .hbm, ⟨7, _⟩ => ⟨S1024x3168x3168, .f32⟩
  | .hbm, ⟨8, _⟩ => ⟨S1024x3168x3168, .i1⟩
  | .hbm, ⟨9, _⟩ => ⟨S1024x3168x3168, .f32⟩
  | .hbm, ⟨10, _⟩ => ⟨S1024x3168x3168, .f32⟩
  | .hbm, ⟨11, _⟩ => ⟨S1024x3168x3168, .i1⟩
  | .hbm, ⟨12, _⟩ => ⟨S1x1x3168, .i32⟩
  | .hbm, ⟨13, _⟩ => ⟨S1x3168x1, .i32⟩
  | .hbm, ⟨14, _⟩ => ⟨S1x3168x3168, .i32⟩
  | .hbm, ⟨15, _⟩ => ⟨S1x3168x3168, .i32⟩
  | .hbm, ⟨16, _⟩ => ⟨S1x3168x3168, .i1⟩
  | .hbm, ⟨17, _⟩ => ⟨S1024x3168x3168, .i1⟩
  | .hbm, ⟨18, _⟩ => ⟨S1024x3168x3168, .i1⟩
  | .hbm, ⟨19, _⟩ => ⟨S1024x3168x3168, .i1⟩
  | .hbm, ⟨20, _⟩ => ⟨S1024x3168x3168, .i32⟩
  | .hbm, ⟨21, _⟩ => ⟨S_, .i32⟩
  | .hbm, ⟨22, _⟩ => ⟨S1024x3168, .i32⟩
  | .hbm, ⟨23, _⟩ => ⟨S51, .i32⟩
  | .hbm, ⟨24, _⟩ => ⟨S1024x1x3168, .i32⟩
  | .hbm, ⟨25, _⟩ => ⟨S1x51x1, .i32⟩
  | .hbm, ⟨26, _⟩ => ⟨S1024x51x3168, .i32⟩
  | .hbm, ⟨27, _⟩ => ⟨S1024x51x3168, .i32⟩
  | .hbm, ⟨28, _⟩ => ⟨S1024x51x3168, .i1⟩
  | .hbm, ⟨29, _⟩ => ⟨S3168, .f32⟩
  | .hbm, ⟨30, _⟩ => ⟨S1x1x3168, .f32⟩
  | .hbm, ⟨31, _⟩ => ⟨S_, .f32⟩
  | .hbm, ⟨32, _⟩ => ⟨S_, .f32⟩
  | .hbm, ⟨33, _⟩ => ⟨S1024x51x3168, .f32⟩
  | .hbm, ⟨34, _⟩ => ⟨S1024x51x3168, .f32⟩
  | .hbm, ⟨35, _⟩ => ⟨S1024x51x3168, .f32⟩
  | .hbm, ⟨36, _⟩ => ⟨S_, .f32⟩
  | .hbm, ⟨37, _⟩ => ⟨S1024x51, .f32⟩
  | .hbm, ⟨38, _⟩ => ⟨S_, .f32⟩
  | .hbm, ⟨39, _⟩ => ⟨S1024x5, .f32⟩
  | .hbm, ⟨40, _⟩ => ⟨S1024x56, .f32⟩
  | _, _ => ⟨S99x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_c : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.KernelOut.lean ====
/- What one grid point leaves in each output's block, as a term of its input blocks: the points below 98 take a block of the
   bank, point 98 takes the batch's own rows. -/
module

public import proofs.«01_k».proof.Proof.Gen.KernelIdeal.Value

@[expose] public section

set_option maxRecDepth 16384

noncomputable section

namespace Cert.KernelOut

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block's column numbers. -/
abbrev cols : IVec S1x1024 32 := iota .tc S1x1024 32 [1] iota_S1x1024_d1_w32

/-- The block's row numbers. -/
abbrev rowNos : IVec S1024x1 32 := iota .tc S1024x1 32 [0] iota_S1024x1_d0_w32

/-- A point's masked similarities to its block of the bank. -/
def bankSims (t : BitVec 32) (x0 : Vec F S1024x128 .f32) (x1 : Vec F S1x1024x128 .f32) (x3 : Vec F S1024x1 .i32) : FVec F S1024x1024 .f32 :=
  k0_pay12 (k0_pay2 x0) (k0_pay8 (F := F) t (k0_pay4 (F := F) x3) cols) (k0_pay9 x1)

/-- The last point's masked similarities to the batch's own rows. -/
def ownSims (x0 : Vec F S1024x128 .f32) (x3 : Vec F S1024x1 .i32) (x4 : Vec F S1x1x1024 .i32) : FVec F S1024x1024 .f32 :=
  k0_pay46 (k0_pay2 x0) (k0_pay42 (F := F) (k0_pay4 (F := F) x3) cols rowNos x4) (k0_pay43 (k0_pay1 x0))

/-- The maxima of the 32 columns from column `o` on. -/
def runMax (v : FVec F S1024x1024 .f32) (o : Nat) (h : S1024x1024.Slices ![0, o] S1024x32) : FVec F S1024x1 .f32 :=
  shapeCast S1024x1 (multiReduction .maximumf [1] S1024 (extractStridedSlice S1024x32 ![0, o] v h) 0xFF800000#32 reduces_S1024x32_S1024 (.inl rfl) rfl) shapeCasts_S1024_S1024x1

theorem slices_run (k : Fin 32) : S1024x1024.Slices ![0, k.val * 32] S1024x32 := by
  revert k
  decide +kernel

theorem concatenates_runs : Shape.Concatenates (List.ofFn fun _ : Fin 32 => S1024x1) S1024x32 1 := by
  decide +kernel

/-- The maxima of all the runs of 32 columns of a block, as a block of the second result. -/
def blockMax (v : FVec F S1024x1024 .f32) : FVec F S1x1024x32 .f32 :=
  shapeCast S1x1024x32 (concatenate S1024x32 1 (List.ofFn fun k : Fin 32 => (⟨S1024x1, runMax v (k.val * 32) (slices_run k)⟩ : (s : Shape) × (s.Idx → F .f32)))
    (by rw [List.map_ofFn]; exact concatenates_runs)) shapeCasts_S1024x32_S1x1024x32

variable (c : Dev nD) (i : grid0.Coords)
variable (arg1 : Memref sig .tc .vmem S1024x128 .f32) (harg1 : arg1.IsWhole)
variable (arg2 : Memref sig .tc .vmem S1x1024x128 .f32) (harg2 : arg2.IsWhole)
variable (arg3 : Memref sig .tc .vmem S128x128 .f32) (harg3 : arg3.IsWhole)
variable (arg4 : Memref sig .tc .vmem S1024x1 .i32) (harg4 : arg4.IsWhole)
variable (arg5 : Memref sig .tc .vmem S1x1x1024 .i32) (harg5 : arg5.IsWhole)
variable (arg6 : Memref sig .tc .vmem S1024x1024 .f32) (harg6 : arg6.IsWhole)
variable (arg7 : Memref sig .tc .vmem S1x1024x32 .f32) (harg7 : arg7.IsWhole)
variable (arg8 : Memref sig .tc .vmem S1x1024x1 .f32) (harg8 : arg8.IsWhole)
variable (arg9 : Memref sig .tc .vmem S1024x1 .f32) (harg9 : arg9.IsWhole)
variable (x0 : Vec F S1024x128 .f32) (x1 : Vec F S1x1024x128 .f32) (x2 : Vec F S128x128 .f32) (x3 : Vec F S1024x1 .i32) (x4 : Vec F S1x1x1024 .i32)

/-- A bank step's block of similarities. -/
theorem out_A_5 (hc0 : cond0_0 i) (hc1 : ¬cond0_1 i) : out0_A_5 c i arg1 harg1 arg2 harg2 arg3 harg3 arg4 harg4 arg5 harg5 arg6 harg6 arg7 harg7 arg8 harg8 arg9 harg9 hc0 hc1 x0 x1 x2 x3 x4
    = bankSims (BitVec.ofNat 32 (i 0).val) x0 x1 x3 := by
  unfold out0_A_5
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]
  rfl

/-- A bank step's chunk maxima. -/
theorem out_A_6 (hc0 : cond0_0 i) (hc1 : ¬cond0_1 i) : out0_A_6 c i arg1 harg1 arg2 harg2 arg3 harg3 arg4 harg4 arg5 harg5 arg6 harg6 arg7 harg7 arg8 harg8 arg9 harg9 hc0 hc1 x0 x1 x2 x3 x4
    = blockMax (bankSims (BitVec.ofNat 32 (i 0).val) x0 x1 x3) := by
  unfold out0_A_6
  rw [View.read_writes_junk_eq_canon]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]
  rfl

/-- A bank step's labels. -/
theorem out_A_7 (hc0 : cond0_0 i) (hc1 : ¬cond0_1 i) : out0_A_7 c i arg1 harg1 arg2 harg2 arg3 harg3 arg4 harg4 arg5 harg5 arg6 harg6 arg7 harg7 arg8 harg8 arg9 harg9 hc0 hc1 x0 x1 x2 x3 x4
    = k0_pay11 (k0_pay10 (k0_pay3 x2) x1) := by
  unfold out0_A_7
  rw [View.read_writes_junk_eq_canon]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]

/-- The last step's similarities. -/
theorem out_B_5 (hc0 : ¬cond0_0 i) (hc1 : cond0_1 i) : out0_B_5 c i arg1 harg1 arg2 harg2 arg3 harg3 arg4 harg4 arg5 harg5 arg6 harg6 arg7 harg7 arg8 harg8 arg9 harg9 hc0 hc1 x0 x1 x2 x3 x4
    = ownSims x0 x3 x4 := by
  unfold out0_B_5
  rw [View.read_writes_junk_eq_canon]
  unfold kernelRun0_B
  dsimp only
  sl_unfold_words
  rw [View.canon_unit_zero hz2]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]
  rfl

/-- The last step's chunk maxima. -/
theorem out_B_6 (hc0 : ¬cond0_0 i) (hc1 : cond0_1 i) : out0_B_6 c i arg1 harg1 arg2 harg2 arg3 harg3 arg4 harg4 arg5 harg5 arg6 harg6 arg7 harg7 arg8 harg8 arg9 harg9 hc0 hc1 x0 x1 x2 x3 x4
    = blockMax (ownSims x0 x3 x4) := by
  unfold out0_B_6
  rw [View.read_writes_junk_eq_canon]
  unfold kernelRun0_B
  dsimp only
  sl_unfold_words
  rw [View.canon_unit_zero hz3]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]
  rfl

/-- The last step's labels. -/
theorem out_B_7 (hc0 : ¬cond0_0 i) (hc1 : cond0_1 i) : out0_B_7 c i arg1 harg1 arg2 harg2 arg3 harg3 arg4 harg4 arg5 harg5 arg6 harg6 arg7 harg7 arg8 harg8 arg9 harg9 hc0 hc1 x0 x1 x2 x3 x4
    = k0_pay45 (k0_pay44 (k0_pay1 x0) (k0_pay3 x2)) := by
  unfold out0_B_7
  rw [View.read_writes_junk_eq_canon]
  unfold kernelRun0_B
  dsimp only
  sl_unfold_words
  rw [View.canon_unit_zero hz3]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]

/-- The last step's labels of the batch. -/
theorem out_B_8 (hc0 : ¬cond0_0 i) (hc1 : cond0_1 i) : out0_B_8 c i arg1 harg1 arg2 harg2 arg3 harg3 arg4 harg4 arg5 harg5 arg6 harg6 arg7 harg7 arg8 harg8 arg9 harg9 hc0 hc1 x0 x1 x2 x3 x4
    = k0_pay7 (k0_pay76 cols (k0_pay41 (F := F) (k0_pay4 (F := F) x3) x4)) (k0_pay77 (k0_pay3 x2) (k0_pay40 (k0_pay1 x0))) (k0_pay78 cols) := by
  unfold out0_B_8
  rw [View.read_writes_junk_eq_canon]
  unfold kernelRun0_B
  dsimp only
  sl_unfold_words
  rw [View.canon_unit_zero hz2]
  simp only [View.readAt_eq_ld, harg1.read_unread, harg2.read_unread, harg3.read_unread, harg4.read_unread, harg5.read_unread,
    View.ld_unit_zero (S := S1024x128) hz2, View.ld_unit_zero (S := S128x128) hz2, View.ld_unit_zero (S := S1024x1) hz2,
    View.ld_unit_zero (S := S1x1024x128) hz3, View.ld_unit_zero (S := S1x1x1024) hz3]

end Cert.KernelOut

end
-- ==== Proof.RefTerm.lean ====
/- The four results of the reference, as terms of its arguments built step by step: the names of the steps follow the
   names in `reference` of the statement. Nothing is proved here. -/
module

public import proofs.«01_k».proof.Proof.Gen.ReferenceIdeal

@[expose] public section

noncomputable section

namespace Cert.ReferenceIdeal.Term

open Cert.ReferenceIdeal Cert.ReferenceIdeal.Gen Idealize.ShloMosaic Idealize.ShloMosaic.TcCoe

variable {F : FTy → Type} [FloatOps F]

/-- The batch's rows, each divided by its Euclidean norm (or by `1e-12` when that is larger). -/
def unitCodes (codes : FVec F S1024x128 .f32) : FVec F S1024x128 .f32 :=
  Host.divf codes (broadcastInDim S1024x128 ![0, 1] bcast_S1024x1_S1024x128_0_1 (maximumf (Host.sqrt (broadcastInDim S1024x1 ![0] bcast_S1024_S1024x1_0 (Host.reduceAdd (mulf codes codes) (constant S_ .f32 0x00000000#32) reducesTo_S1024x128_S1024_d1 h_S_))) (broadcastInDim S1024x1 ![] bcast_S_S1024x1 (constant S_ .f32 0x2B8CBCCC#32))))

/-- The same of the centroids. -/
def unitCentroids (x : FVec F S100x128 .f32) : FVec F S100x128 .f32 :=
  Host.divf x (broadcastInDim S100x128 ![0, 1] bcast_S100x1_S100x128_0_1 (maximumf (Host.sqrt (broadcastInDim S100x1 ![0] bcast_S100_S100x1_0 (Host.reduceAdd (mulf x x) (constant S_ .f32 0x00000000#32) reducesTo_S100x128_S100_d1 h_S_))) (broadcastInDim S100x1 ![] bcast_S_S100x1 (constant S_ .f32 0x2B8CBCCC#32))))

/-- The same of a bank. -/
def unitBank (x : FVec F S100000x128 .f32) : FVec F S100000x128 .f32 :=
  Host.divf x (broadcastInDim S100000x128 ![0, 1] bcast_S100000x1_S100000x128_0_1 (maximumf (Host.sqrt (broadcastInDim S100000x1 ![0] bcast_S100000_S100000x1_0 (Host.reduceAdd (mulf x x) (constant S_ .f32 0x00000000#32) reducesTo_S100000x128_S100000_d1 h_S_))) (broadcastInDim S100000x1 ![] bcast_S_S100000x1 (constant S_ .f32 0x2B8CBCCC#32))))

/-- The same of the padded bank with the batch's rows below it. -/
def unitRows (x : FVec F S101376x128 .f32) : FVec F S101376x128 .f32 :=
  Host.divf x (broadcastInDim S101376x128 ![0, 1] bcast_S101376x1_S101376x128_0_1 (maximumf (Host.sqrt (broadcastInDim S101376x1 ![0] bcast_S101376_S101376x1_0 (Host.reduceAdd (mulf x x) (constant S_ .f32 0x00000000#32) reducesTo_S101376x128_S101376_d1 h_S_))) (broadcastInDim S101376x1 ![] bcast_S_S101376x1 (constant S_ .f32 0x2B8CBCCC#32))))

/-- The indices as array positions: a negative one counts from the end. -/
def position (idx : IVec S1024 32) : IVec S1024x1 32 :=
  broadcastInDim S1024x1 ![0] bcast_S1024_S1024x1_0 (select (cmpi .slt idx (broadcastInDim S1024 ![] bcast_S_S1024 (constantI S_ 32 0#32))) (addi idx (broadcastInDim S1024 ![] bcast_S_S1024 (constantI S_ 32 100000#32))) idx)

/-- The bank after the batch's rows are written to it. -/
def updated (codes : FVec F S1024x128 .f32) (idx : IVec S1024 32) (bank : FVec F S100000x128 .f32) : FVec F S100000x128 .f32 :=
  Host.scatter scatter_S100000x128_S1024x1_S1024x128_1_0_0_1 (fun _ b => b) bank (position idx) (unitCodes codes)

/-- The similarities of the batch's rows to the rows of the written bank. -/
def sims (codes : FVec F S1024x128 .f32) (idx : IVec S1024 32) (bank : FVec F S100000x128 .f32) : FVec F S1024x100000 .f32 :=
  Host.dotGeneral dot_S1024x128_S128x100000_S1024x100000_1_0_0_1_n_n none (unitCodes codes) (transpose S128x100000 [1, 0] (unitBank (updated codes idx bank)) transposes_S100000x128_S128x100000_1_0)

/-- Of each row of the bank the batch item written to it last, `-1` for none. -/
def writer (idx : IVec S1024 32) : IVec S100000 32 :=
  Host.scatter scatter_S100000_S1024x1_S1024_n_0_0_1 (fun _ b => b) (broadcastInDim S100000 ![] bcast_S_S100000 (constantI S_ 32 4294967295#32)) (position idx) (iotaInDim S1024 32 0)

/-- The similarities with the written rows masked, then the padding. -/
def sBank (codes : FVec F S1024x128 .f32) (idx : IVec S1024 32) (bank : FVec F S100000x128 .f32) : FVec F S1024x100352 .f32 :=
  pad S1024x100352 ![0, 0] ![0, 352] ![0, 0] (select (broadcastInDim S1024x100000 ![0, 1] bcast_S1x100000_S1024x100000_0_1 (broadcastInDim S1x100000 ![1] bcast_S100000_S1x100000_1 (cmpi .sge (writer idx) (broadcastInDim S100000 ![] bcast_S_S100000 (constantI S_ 32 0#32))))) (broadcastInDim S1024x100000 ![] bcast_S_S1024x100000 (id (constant S_ .f32 0xFF800000#32))) (sims codes idx bank)) (id (constant S_ .f32 0xFF800000#32)) pads_S1024x100000_S1024x100352_000_03520 h_S_

/-- The similarities to the batch's own rows, those overwritten by a later item masked. -/
def sOwn (codes : FVec F S1024x128 .f32) (idx : IVec S1024 32) (bank : FVec F S100000x128 .f32) : FVec F S1024x1024 .f32 :=
  select (broadcastInDim S1024x1024 ![0, 1] bcast_S1x1024_S1024x1024_0_1 (broadcastInDim S1x1024 ![1] bcast_S1024_S1x1024_1 (cmpi .eq (Host.gather gather_S100000_S1024x1_S1024_n_0_n_n_0_1_1 (writer idx) (position idx)) (iotaInDim S1024 32 0)))) (Host.gather gather_S1024x100000_S1024x1_S1024x1024_0_1_n_n_1_1_10241 (sims codes idx bank) (position idx)) (broadcastInDim S1024x1024 ![] bcast_S_S1024x1024 (id (constant S_ .f32 0xFF800000#32)))

/-- The first result: all the masked similarities. -/
def s (codes : FVec F S1024x128 .f32) (idx : IVec S1024 32) (bank : FVec F S100000x128 .f32) : FVec F S1024x101376 .f32 :=
  concatenate S1024x101376 1 [⟨S1024x100352, sBank codes idx bank⟩, ⟨S1024x1024, sOwn codes idx bank⟩] concatenates_S1024x100352_S1024x1024_S1024x101376_d1

/-- The second result: the maxima of runs of 32 columns. -/
def chunkMax (x : FVec F S1024x101376 .f32) : FVec F S99x1024x32 .f32 :=
  transpose S99x1024x32 [1, 0, 2] (Host.reduce FloatOps.maximumf (shapeCast S1024x99x32x32 x shapeCasts_S1024x101376_S1024x99x32x32) (constant S_ .f32 0xFF800000#32) reducesTo_S1024x99x32x32_S1024x99x32_d3 h_S_) transposes_S1024x99x32_S99x1024x32_1_0_2

/-- The padded bank with the batch's rows below it. -/
def rows (codes : FVec F S1024x128 .f32) (bank : FVec F S100000x128 .f32) : FVec F S101376x128 .f32 :=
  concatenate S101376x128 0 [⟨S100352x128, pad S100352x128 ![0, 0] ![352, 0] ![0, 0] bank (sitofp .f32 (constantI S_ 32 0#32)) pads_S100000x128_S100352x128_03520_000 h_S_⟩, ⟨S1024x128, unitCodes codes⟩] concatenates_S100352x128_S1024x128_S101376x128_d0

/-- The centroids' unit rows, as columns. -/
def unitColumns (cents : FVec F S100x128 .f32) : FVec F S128x100 .f32 :=
  transpose S128x100 [1, 0] (unitCentroids cents) transposes_S100x128_S128x100_1_0

/-- The nearest centroid of each of those rows. -/
def rowLabels (x : FVec F S101376x128 .f32) (cents : FVec F S100x128 .f32) : IVec S101376 32 :=
  fun j => (Host.argReduce reducer_argmax_f32_i32 (Host.dotGeneral dot_S101376x128_S128x100_S101376x100_1_0_0_1_n_n none (unitRows x) (unitColumns cents)) (iotaInDim S101376x100 32 1) (constant S_ .f32 0xFF800000#32) (constantI S_ 32 0#32) reducesTo_S101376x100_S101376_d1 h_S_ j).2

/-- The third result: those labels, as numbers, in blocks of 1024. -/
def lab (codes : FVec F S1024x128 .f32) (bank : FVec F S100000x128 .f32) (cents : FVec F S100x128 .f32) : FVec F S99x1024x1 .f32 :=
  shapeCast S99x1024x1 (sitofp .f32 (rowLabels (rows codes bank) cents)) shapeCasts_S101376_S99x1024x1

/-- The nearest centroid of each row of the written bank. -/
def bankLabels (x : FVec F S100000x128 .f32) (cents : FVec F S100x128 .f32) : IVec S100000 32 :=
  fun j => (Host.argReduce reducer_argmax_f32_i32 (Host.dotGeneral dot_S100000x128_S128x100_S100000x100_1_0_0_1_n_n none (unitBank x) (unitColumns cents)) (iotaInDim S100000x100 32 1) (constant S_ .f32 0xFF800000#32) (constantI S_ 32 0#32) reducesTo_S100000x100_S100000_d1 h_S_ j).2

/-- The fourth result: the labels the batch's indices find in the written bank. -/
def labq (codes : FVec F S1024x128 .f32) (idx : IVec S1024 32) (bank : FVec F S100000x128 .f32) (cents : FVec F S100x128 .f32) : FVec F S1024x1 .f32 :=
  shapeCast S1024x1 (sitofp .f32 (Host.gather gather_S100000_S1024x1_S1024_n_0_n_n_0_1_1 (bankLabels (updated codes idx bank) cents) (position idx))) shapeCasts_S1024_S1024x1

end Cert.ReferenceIdeal.Term

end
-- ==== Proof.Spec.lean ====
/- What both programs compute, in plain words: rows scaled to unit length, their scalar products, the masked
   similarity table, its maxima over runs of 32 columns, and the nearest centroid of a row. The indices are given as
   positions in the bank. -/
module

public import Idealize.ShloMosaic.PureOps.Ideal.Laws

@[expose] public section

noncomputable section

namespace Cert.Spec

open Idealize.ShloMosaic

/-- A row of 128 numbers. -/
abbrev Row := Fin 128 → EReal

/-- The least divisor of a row: `1e-12` as an f32. -/
def eps : EReal := Ideal.ofBits .f32 0x2B8CBCCC#32

/-- A row divided by its Euclidean norm, or by `eps` when that is larger. -/
def unit (x : Row) : Row := fun d => Ideal.div (x d) (max (Ideal.sqrt (∑ k, x k * x k)) eps)

/-- The scalar product of two rows. -/
def dot (x y : Row) : EReal := ∑ k, x k * y k

/-- `c` is the first of the places where `f` is greatest. -/
def IsBest (f : Fin 100 → EReal) (c : Fin 100) : Prop := (∀ d, f d ≤ f c) ∧ ∀ d, f d = f c → c ≤ d

/-- There is a first lane with the greatest score. -/
theorem exists_isBest (f : Fin 100 → EReal) : ∃ c, IsBest f c := by
  obtain ⟨a, -, ha⟩ := Finset.exists_max_image Finset.univ f ⟨0, Finset.mem_univ _⟩
  have hne : (Finset.univ.filter fun c => f c = f a).Nonempty := ⟨a, by simp⟩
  refine ⟨(Finset.univ.filter fun c => f c = f a).min' hne, ?_⟩
  have hm := (Finset.mem_filter.1 (Finset.min'_mem _ hne)).2
  refine ⟨fun d => (ha d (Finset.mem_univ _)).trans_eq hm.symm, fun d hd => Finset.min'_le _ _ ?_⟩
  exact Finset.mem_filter.2 ⟨Finset.mem_univ _, hd.trans hm⟩

/-- The first of the places where `f` is greatest. -/
def best (f : Fin 100 → EReal) : Fin 100 := (exists_isBest f).choose

/-- The chosen lane is the first with the greatest score. -/
theorem isBest_best (f : Fin 100 → EReal) : IsBest f (best f) := (exists_isBest f).choose_spec

theorem IsBest.eq_best {f : Fin 100 → EReal} {c : Fin 100} (h : IsBest f c) : c = best f := by
  have hb := isBest_best f
  have he : f c = f (best f) := le_antisymm (hb.1 c) (h.1 (best f))
  exact le_antisymm (h.2 _ he.symm) (hb.2 _ he)

/-- The centroid nearest to a row: both scaled, the greatest scalar product. -/
def label (cents : Fin 100 → Row) (x : Row) : Fin 100 := best fun c => dot (unit x) (unit (cents c))

/-- A label as the number an f32 holds. -/
def number (c : Fin 100) : EReal := (((c.val : ℤ) : ℝ) : EReal)

/-- The similarity of batch row `i` to row `n` of the bank, masked if the batch wrote row `n`. -/
def simBank (codes : Fin 1024 → Row) (pos : Fin 1024 → Fin 100000) (bank : Fin 100000 → Row) (i : Fin 1024) (n : Fin 100000) : EReal :=
  if ∃ j, pos j = n then ⊥ else dot (unit (codes i)) (unit (bank n))

/-- The similarity of batch row `i` to what batch row `j` wrote to the bank, masked if a later row wrote there too. -/
def simOwn (codes : Fin 1024 → Row) (pos : Fin 1024 → Fin 100000) (i j : Fin 1024) : EReal :=
  if ∃ k, j < k ∧ pos k = pos j then ⊥ else dot (unit (codes i)) (unit (unit (codes j)))

/-- The whole table: the bank's columns, 352 masked ones, the batch's own. -/
def sim (codes : Fin 1024 → Row) (pos : Fin 1024 → Fin 100000) (bank : Fin 100000 → Row) (i : Fin 1024) (c : Fin 101376) : EReal :=
  if h : c.val < 100352 then (if h' : c.val < 100000 then simBank codes pos bank i ⟨c.val, h'⟩ else ⊥)
  else simOwn codes pos i ⟨c.val - 100352, by omega⟩

/-- The column of entry `x` of run `k` of block `t`. -/
def column (t : Fin 99) (k x : Fin 32) : Fin 101376 := ⟨t.val * 1024 + k.val * 32 + x.val, by omega⟩

/-- The greatest of a run of 32 columns. -/
def chunk (codes : Fin 1024 → Row) (pos : Fin 1024 → Fin 100000) (bank : Fin 100000 → Row) (t : Fin 99) (i : Fin 1024) (k : Fin 32) : EReal :=
  Finset.univ.fold max ⊥ fun x : Fin 32 => sim codes pos bank i (column t k x)

/-- Row `n` of the padded bank with the batch's rows below it. -/
def bankRow (codes : Fin 1024 → Row) (bank : Fin 100000 → Row) (n : Fin 101376) : Row :=
  if h : n.val < 100352 then (if h' : n.val < 100000 then bank ⟨n.val, h'⟩ else fun _ => 0)
  else unit (codes ⟨n.val - 100352, by omega⟩)

/-- The label of row `r` of block `t`. -/
def blockLabel (codes : Fin 1024 → Row) (bank : Fin 100000 → Row) (cents : Fin 100 → Row) (t : Fin 99) (r : Fin 1024) : EReal :=
  number (label cents (bankRow codes bank ⟨t.val * 1024 + r.val, by omega⟩))

/-- `j` is the last batch row written to the place that row `i` is written to. -/
def IsLast (pos : Fin 1024 → Fin 100000) (i j : Fin 1024) : Prop := pos j = pos i ∧ ∀ k, pos k = pos i → k ≤ j

/-- There is a last item with the position of item i. -/
theorem exists_isLast (pos : Fin 1024 → Fin 100000) (i : Fin 1024) : ∃ j, IsLast pos i j := by
  have hne : (Finset.univ.filter fun j => pos j = pos i).Nonempty := ⟨i, by simp⟩
  refine ⟨(Finset.univ.filter fun j => pos j = pos i).max' hne, (Finset.mem_filter.1 (Finset.max'_mem _ hne)).2, fun k hk => Finset.le_max' _ _ ?_⟩
  exact Finset.mem_filter.2 ⟨Finset.mem_univ _, hk⟩

/-- The last batch row written to the place that row `i` is written to. -/
def last (pos : Fin 1024 → Fin 100000) (i : Fin 1024) : Fin 1024 := (exists_isLast pos i).choose

/-- The chosen item is the last with the position of item i. -/
theorem isLast_last (pos : Fin 1024 → Fin 100000) (i : Fin 1024) : IsLast pos i (last pos i) := (exists_isLast pos i).choose_spec

/-- The label of what the bank holds at row `i`'s place after the batch is written. -/
def ownLabel (codes : Fin 1024 → Row) (pos : Fin 1024 → Fin 100000) (cents : Fin 100 → Row) (i : Fin 1024) : EReal :=
  number (label cents (unit (codes (last pos i))))

end Cert.Spec

end
-- ==== Proof.Argmax.lean ====
/- The host's arg-max of a row, whose body keeps the greater value and of equal values the smaller index: over 100
   columns it is the first place where the row is greatest. -/
module

public import proofs.«01_k».proof.Proof.RefTerm
public import proofs.«01_k».proof.Proof.Spec
public import Idealize.ShloMosaic.Lib.Routing.OpsSet
public import Idealize.ShloMosaic.Lib.WordCmp
public import Idealize.ShloMosaic.Lib.Pointwise

@[expose] public section

noncomputable section

namespace Cert.Argmax

open Idealize.ShloMosaic Cert.Spec Cert.ReferenceIdeal

/-- Pair `a` comes before pair `b`: its value is greater, or equal with a smaller index. -/
def Before (a b : EReal × BitVec 32) : Prop := b.1 < a.1 ∨ (a.1 = b.1 ∧ a.2.toInt < b.2.toInt)

instance (a b : EReal × BitVec 32) : Decidable (Before a b) := Classical.dec _

/-- The body takes of two pairs the one that comes before the other. -/
theorem reducer_eq (a b : EReal × BitVec 32) :
    reducer_argmax_f32_i32 (F := Ideal) a b = if Before a b then a else b := by
  obtain ⟨a1, a2⟩ := a
  obtain ⟨b1, b2⟩ := b
  unfold reducer_argmax_f32_i32 Before
  simp only [Ideal.cmpf_def, Ideal.cmp, IntOp.cmpi, BitVec.slt]
  by_cases h1 : b1 < a1
  · simp [h1, h1.ne', IntOp.ori, IntOp.andi, Scalar.select]
  · by_cases h2 : a1 = b1
    · subst h2
      by_cases h3 : a2.toInt < b2.toInt <;> simp [h3, IntOp.ori, IntOp.andi, Scalar.select]
    · simp [h1, h2, IntOp.ori, IntOp.andi, Scalar.select]

/-- A fold that keeps the earlier of two pairs ends at a pair it has met, and no pair it has met comes before it. -/
theorem foldl_before (l : List (EReal × BitVec 32)) (a : EReal × BitVec 32) :
    (l.foldl (fun a b => if Before a b then a else b) a ∈ a :: l)
      ∧ ∀ b ∈ a :: l, ¬ Before b (l.foldl (fun a b => if Before a b then a else b) a) := by
  induction l generalizing a with
  | nil => exact ⟨by simp, fun b hb => by
      obtain rfl : b = a := by simpa using hb
      rintro (h | h)
      · exact lt_irrefl _ h
      · exact lt_irrefl _ h.2⟩
  | cons x l ih =>
    rw [List.foldl_cons]
    by_cases h : Before a x
    · rw [if_pos h]
      obtain ⟨h1, h2⟩ := ih a
      refine ⟨by rcases List.mem_cons.1 h1 with e | e <;> simp [e], fun b hb => ?_⟩
      rcases List.mem_cons.1 hb with rfl | hb
      · exact h2 _ (by simp)
      · rcases List.mem_cons.1 hb with rfl | hb
        · intro hx
          refine h2 a (by simp) ?_
          rcases h with h | ⟨h, h'⟩ <;> rcases hx with g | ⟨g, g'⟩
          · exact .inl (g.trans h)
          · exact .inl (g ▸ h)
          · exact .inl (h ▸ g)
          · exact .inr ⟨h.trans g, h'.trans g'⟩
        · exact h2 _ (by simp [hb])
    · rw [if_neg h]
      obtain ⟨h1, h2⟩ := ih x
      refine ⟨by rcases List.mem_cons.1 h1 with e | e <;> simp [e], fun b hb => ?_⟩
      rcases List.mem_cons.1 hb with rfl | hb
      · intro hx
        have h3 := h2 x (by simp)
        revert h hx h3
        unfold Before
        generalize List.foldl _ x l = y
        intro h hx h3
        push Not at h h3
        rcases hx with g | ⟨g, g'⟩
        · exact absurd (g.trans_le h.1) (not_lt.2 h3.1)
        · have e : x.1 = y.1 := le_antisymm h3.1 (g ▸ h.1)
          have := h3.2 e
          have := h.2 (g.trans e.symm)
          omega
      · exact h2 _ hb

/-- A fold of the reduction's body from `(⊥, 0)` over all pairs of a value and its place, in any order, ends at the
    first place where the value is greatest. -/
theorem foldl_best (f : Fin 100 → EReal) (l : List (EReal × BitVec 32))
    (hl : ∀ p, p ∈ l ↔ ∃ c : Fin 100, p = (f c, BitVec.ofNat 32 c.val)) :
    (l.foldl (reducer_argmax_f32_i32 (F := Ideal)) (⊥, 0#32)).2 = BitVec.ofNat 32 (best f).val := by
  have e : (reducer_argmax_f32_i32 (F := Ideal)) = fun a b => if Before a b then a else b :=
    funext fun a => funext fun b => reducer_eq a b
  rw [e]
  obtain ⟨h1, h2⟩ := foldl_before l (⊥, 0#32)
  generalize List.foldl _ _ l = y at h1 h2
  have hi : ∀ c : Fin 100, (BitVec.ofNat 32 c.val).toInt = (c.val : ℤ) := fun c =>
    StableHlo.Predicate.toInt_ofNat_small _ (by omega)
  have hc : ∀ c : Fin 100, f c ≤ y.1 ∧ (f c = y.1 → y.2.toInt ≤ (c.val : ℤ)) := fun c => by
    have h := h2 _ (List.mem_cons_of_mem _ ((hl _).2 ⟨c, rfl⟩))
    unfold Before at h
    push Not at h
    exact ⟨h.1, fun g => by have := h.2 g; simpa [hi] using this⟩
  rcases List.mem_cons.1 h1 with rfl | hy
  · have hb : IsBest f 0 := ⟨fun d => ((hc d).1.trans bot_le), fun d _ => Fin.zero_le _⟩
    rw [← hb.eq_best]
    rfl
  · obtain ⟨c, rfl⟩ := (hl _).1 hy
    have hb : IsBest f c := ⟨fun d => (hc d).1, fun d hd => by
      have := (hc d).2 hd
      rw [hi] at this
      exact_mod_cast this⟩
    rw [← hb.eq_best]

/-- The host's arg-max at `j`, where the entries that `j` reduces are `place 0`, …, `place 99`: the first of them where
    the table is greatest. -/
theorem argmax_at {s t u : Shape} {axes : List (Fin s.rank)} (x : FVec Ideal s .f32) (y : IVec s 32) (ix : FVec Ideal u .f32) (iy : IVec u 32)
    (h : s.ReducesTo axes t) (hu : 0 < u.numel) (j : t.Idx) (place : Fin 100 → s.Idx) (hp : ∀ i, h.drop i = j ↔ ∃ c, i = place c)
    (hy : ∀ c, y (place c) = BitVec.ofNat 32 c.val) (hx : ∀ j, ix j = ⊥) (hy0 : ∀ j, iy j = 0#32) :
    (Host.argReduce reducer_argmax_f32_i32 x y ix iy h hu j).2 = BitVec.ofNat 32 (best fun c => x (place c)).val := by
  rw [Ideal.argReduce_eq_reduce2, Host.reduce2_eq_foldl_fiber, hx, hy0]
  refine foldl_best _ _ fun p => ?_
  simp only [Host.argReduceFiber, List.mem_map, List.mem_filter, List.mem_finRange, true_and, decide_eq_true_eq, hp]
  constructor
  · rintro ⟨n, ⟨c, hc⟩, rfl⟩
    exact ⟨c, by rw [hc, hy]⟩
  · rintro ⟨c, rfl⟩
    exact ⟨s.rowMajor (place c), ⟨c, by rw [Equiv.symm_apply_apply]⟩, by rw [Equiv.symm_apply_apply, hy]⟩

/-- The same as one equation between tables. -/
theorem argmax_eq {s t u : Shape} {axes : List (Fin s.rank)} (x : FVec Ideal s .f32) (y : IVec s 32) (ix : FVec Ideal u .f32) (iy : IVec u 32)
    (h : s.ReducesTo axes t) (hu : 0 < u.numel) (place : t.Idx → Fin 100 → s.Idx) (hp : ∀ j i, h.drop i = j ↔ ∃ c, i = place j c)
    (hy : ∀ j c, y (place j c) = BitVec.ofNat 32 c.val) (hx : ∀ j, ix j = ⊥) (hy0 : ∀ j, iy j = 0#32) :
    (fun j => (Host.argReduce reducer_argmax_f32_i32 x y ix iy h hu j).2) = fun j => BitVec.ofNat 32 (best fun c => x (place j c)).val :=
  funext fun j => argmax_at x y ix iy h hu j (place j) (hp j) (hy j) hx hy0

/-- Reducing the columns of a table of 100 columns, row `r` is made of the entries `(r, c)`. -/
theorem drop_row {N : Nat} (h : (⟨2, ![N, 100]⟩ : Shape).ReducesTo [1] ⟨1, ![N]⟩) (i : (⟨2, ![N, 100]⟩ : Shape).Idx) (r : Fin N) :
    h.drop i = ix1 r ↔ ∃ c : Fin 100, i = ix2 r c := by
  constructor
  · intro hn
    have h0 : (h.drop i 0 : Nat) = i 0 := h.drop_apply_val i 0
    rw [hn] at h0
    refine ⟨i 1, ?_⟩
    conv_lhs => rw [eq_ix2 i]
    exact congrArg (fun a => ix2 a (i 1)) (Fin.ext h0.symm)
  · rintro ⟨c, rfl⟩
    funext a
    match a with
    | ⟨0, _⟩ => exact Fin.ext (h.drop_apply_val (ix2 r c) 0)

end Cert.Argmax

end
-- ==== Proof.Scatter.lean ====
/- The host's scatters and gathers of the reference, read at an entry. Of the updates that land on an entry the last in
   row-major order stands; an index that is a position of the operand is read as that position. -/
module

public import proofs.«01_k».proof.Proof.RefTerm
public import Idealize.ShloMosaic.Lib.Routing.OpsPair
public import Idealize.ShloMosaic.Lib.Routing.OpsSet
public import Idealize.ShloMosaic.Lib.Pointwise

@[expose] public section

noncomputable section

namespace Cert.Scatter

open Idealize.ShloMosaic Cert.ReferenceIdeal Cert.ReferenceIdeal.Gen

/-- Walking an increasing list and taking a value at each marked place ends with the value of the last marked place. -/
theorem foldl_last {α : Type} {N : Nat} (p : Fin N → Prop) [DecidablePred p] (v : Fin N → α) (k : Fin N) (hk : p k)
    (hlast : ∀ n, p n → n ≤ k) (l : List (Fin N)) (hl : l.Pairwise (· < ·)) (hm : k ∈ l) (a : α) :
    l.foldl (fun a n => if p n then v n else a) a = v k := by
  have hno : ∀ (l : List (Fin N)), (∀ n ∈ l, ¬ p n) → ∀ a, l.foldl (fun a n => if p n then v n else a) a = a := by
    intro l
    induction l with
    | nil => exact fun _ _ => rfl
    | cons n l ih =>
      intro h a
      rw [List.foldl_cons, if_neg (h n (by simp))]
      exact ih (fun m hm => h m (by simp [hm])) a
  induction l generalizing a with
  | nil => exact absurd hm (by simp)
  | cons n l ih =>
    rw [List.foldl_cons]
    obtain ⟨h1, h2⟩ := List.pairwise_cons.1 hl
    by_cases e : n = k
    · subst e
      rw [if_pos hk]
      exact hno l (fun m hm hp => absurd (hlast m hp) (not_le.2 (h1 m hm))) _
    · exact ih h2 (by rcases List.mem_cons.1 hm with q | q; exacts [absurd q.symm e, q]) _

/-- A scatter whose body returns the update, read where update `k` lands and none after `k` in row-major order: update `k`. -/
theorem scatter_last {α : Type} {s si u : Shape} {w : Nat} (d : ScatterDims s si u) (x0 : s.Idx → α) (idx : IVec si w)
    (upd : u.Idx → α) (ι : s.Idx) (k : u.Idx) (hk : d.resultIdx? k idx = some ι)
    (hlast : ∀ k', d.resultIdx? k' idx = some ι → u.rowMajor k' ≤ u.rowMajor k) :
    Host.scatter d (fun _ b => b) x0 idx upd ι = upd k := by
  classical
  rw [Routing.scatter_at]
  rw [foldl_last (fun n => d.resultIdx? (u.rowMajor.symm n) idx = some ι) (fun n => upd (u.rowMajor.symm n)) (u.rowMajor k)
    (by rw [Equiv.symm_apply_apply]; exact hk) (fun n hn => by simpa using hlast _ hn) _ (List.pairwise_lt_finRange _) (List.mem_finRange _),
    Equiv.symm_apply_apply]

/-- Update `i` of the scatter of scalars lands at entry `n` exactly when index word `i`, read signed, is `n`. -/
theorem lands_scalar (idx : IVec S1024x1 32) (i : Fin 1024) (n : Fin 100000) :
    scatter_S100000_S1024x1_S1024_n_0_0_1.resultIdx? (ix1 i) idx = some (ix1 n) ↔ (idx (ix2 i 0)).toInt = (n.val : Int) := by
  have hstart : scatter_S100000_S1024x1_S1024_n_0_0_1.start (ix1 i) idx 0 = (idx (ix2 i 0)).toInt := by
    unfold ScatterDims.start
    rw [dif_pos (by exact List.mem_singleton.2 rfl)]
    refine congrArg (fun j => (idx j).toInt) (funext fun b => ?_)
    match b with
    | ⟨0, _⟩ => rfl
    | ⟨1, _⟩ => rfl
  have hwin : scatter_S100000_S1024x1_S1024_n_0_0_1.window (ix1 i) 0 = 0 := by rfl
  rw [Routing.resultIdx?_eq_some]
  constructor
  · intro h
    have h0 := h 0
    rw [hstart, hwin] at h0
    simpa using h0
  · intro h a
    match a with
    | ⟨0, _⟩ =>
      show scatter_S100000_S1024x1_S1024_n_0_0_1.start (ix1 i) idx 0 + _ = _
      rw [hstart, h]
      rfl

/-- Entry `(i, e)` of the scatter of rows lands at `(n, d)` exactly when index word `i`, read signed, is `n` and `e` is `d`. -/
theorem lands_row (idx : IVec S1024x1 32) (i : Fin 1024) (e : Fin 128) (n : Fin 100000) (d : Fin 128) :
    scatter_S100000x128_S1024x1_S1024x128_1_0_0_1.resultIdx? (ix2 i e) idx = some (ix2 n d)
      ↔ (idx (ix2 i 0)).toInt = (n.val : Int) ∧ e = d := by
  have hstart : scatter_S100000x128_S1024x1_S1024x128_1_0_0_1.start (ix2 i e) idx 0 = (idx (ix2 i 0)).toInt := by
    unfold ScatterDims.start
    rw [dif_pos (by exact List.mem_singleton.2 rfl)]
    refine congrArg (fun j => (idx j).toInt) (funext fun b => ?_)
    match b with
    | ⟨0, _⟩ => rfl
    | ⟨1, _⟩ => rfl
  have hstart1 : scatter_S100000x128_S1024x1_S1024x128_1_0_0_1.start (ix2 i e) idx 1 = 0 := by rfl
  have hwin : scatter_S100000x128_S1024x1_S1024x128_1_0_0_1.window (ix2 i e) 0 = 0 := by rfl
  have hwin1 : scatter_S100000x128_S1024x1_S1024x128_1_0_0_1.window (ix2 i e) 1 = e.val := by rfl
  rw [show (ix2 n d : S100000x128.Idx) = ValueIdx.ix2 n d from rfl, Routing.resultIdx?_ix2, hstart, hstart1, hwin, hwin1, Fin.ext_iff]
  simp

/-- Entry `(i, j)` of the gather of columns, where index word `j` is a position `n`: entry `(i, n)` of the table. -/
theorem gather_column {α : Type} (x : S1024x100000.Idx → α) (idx : IVec S1024x1 32) (i j : Fin 1024) (n : Fin 100000)
    (h : (idx (ix2 j 0)).toInt = (n.val : Int)) :
    Host.gather gather_S1024x100000_S1024x1_S1024x1024_0_1_n_n_1_1_10241 x idx (ix2 i j) = x (ix2 i n) := by
  have hi := i.isLt
  have hn := n.isLt
  unfold Host.gather
  refine congrArg x (funext fun a => Fin.ext ?_)
  match a with
  | ⟨0, _⟩ =>
    show 0 + 0 + i.val = i.val
    omega
  | ⟨1, _⟩ =>
    have hs : gather_S1024x100000_S1024x1_S1024x1024_0_1_n_n_1_1_10241.start (ix2 i j) idx 1 = n.val := by
      unfold GatherDims.start
      rw [dif_pos (by exact List.mem_singleton.2 rfl)]
      have e : gather_S1024x100000_S1024x1_S1024x1024_0_1_n_n_1_1_10241.siIdx (ix2 i j) ⟨0, Nat.one_pos⟩ = ix2 j 0 := by
        funext b
        match b with
        | ⟨0, _⟩ => rfl
        | ⟨1, _⟩ => rfl
      refine (congrArg (fun q => min (idx q).toInt.toNat (100000 - 1)) e).trans ?_
      show min (idx (ix2 j 0)).toInt.toNat (100000 - 1) = n.val
      rw [h]
      omega
    show gather_S1024x100000_S1024x1_S1024x1024_0_1_n_n_1_1_10241.start (ix2 i j) idx 1 + 0 + 0 = n.val
    omega

end Cert.Scatter

end
-- ==== Proof.RefAt.lean ====
/- The reference's four results read at an entry, in the words of Spec.lean, where the indices are positions of the bank. -/
module

public import proofs.«01_k».proof.Proof.Argmax
public import proofs.«01_k».proof.Proof.Scatter
public import Idealize.ShloMosaic.Lib.WordCmp

@[expose] public section

noncomputable section

namespace Cert.RefAt

open Idealize.ShloMosaic Cert.Spec Cert.ReferenceIdeal Cert.ReferenceIdeal.Gen

/-- Row `i` of a table of 128 columns. -/
def rowOf {N : Nat} (x : FVec Ideal ⟨2, ![N, 128]⟩ .f32) (i : Fin N) : Row := fun d => x (ix2 i d)

theorem ofBits_bot : Ideal.ofBits .f32 0xFF800000#32 = ⊥ := by simp [Ideal.ofBits, Ideal.ieee]

/-! ## Unit rows -/

/-- The reference's normalised codes are unit rows. -/
theorem unitCodes_at (x : FVec Ideal S1024x128 .f32) (i : Fin 1024) (d : Fin 128) : Term.unitCodes x (ix2 i d) = unit (rowOf x i) d := by
  pointwise [Term.unitCodes]
  rfl

/-- Its normalised centroids are unit rows. -/
theorem unitCentroids_at (x : FVec Ideal S100x128 .f32) (i : Fin 100) (d : Fin 128) : Term.unitCentroids x (ix2 i d) = unit (rowOf x i) d := by
  pointwise [Term.unitCentroids]
  rfl

/-- Its normalised bank has unit rows. -/
theorem unitBank_at (x : FVec Ideal S100000x128 .f32) (i : Fin 100000) (d : Fin 128) : Term.unitBank x (ix2 i d) = unit (rowOf x i) d := by
  pointwise [Term.unitBank]
  rfl

/-- Its normalised rows for the labels are unit rows. -/
theorem unitRows_at (x : FVec Ideal S101376x128 .f32) (i : Fin 101376) (d : Fin 128) : Term.unitRows x (ix2 i d) = unit (rowOf x i) d := by
  pointwise [Term.unitRows]
  rfl

/-! ## The written bank -/

section Written

variable (x : FVec Ideal S1024x128 .f32) (idx : IVec S1024 32) (bank : FVec Ideal S100000x128 .f32)
variable (pos : Fin 1024 → Fin 100000) (hpos : ∀ i, (idx (ix1 i)).toInt = ((pos i).val : Int))
include hpos

/-- The scatter's index column holds the indices. -/
theorem position_at (i : Fin 1024) : Term.position idx (ix2 i 0) = idx (ix1 i) := by
  pointwise [Term.position]
  have h : ¬ (idx (ix1 i)).toInt < 0 := by rw [hpos]; omega
  simp [IntOp.cmpi, BitVec.slt, Scalar.select, h]

/-- What the bank holds at a place the batch wrote: the unit row of the last item written there. -/
theorem updated_hit (i : Fin 1024) (d : Fin 128) : Term.updated x idx bank (ix2 (pos i) d) = unit (rowOf x (last pos i)) d := by
  unfold Term.updated
  obtain ⟨h1, h2⟩ := isLast_last pos i
  rw [Scatter.scatter_last _ _ _ _ _ (ix2 (last pos i) d), unitCodes_at]
  · rw [Scatter.lands_row, position_at idx pos hpos, hpos, h1]
    exact ⟨rfl, rfl⟩
  · intro k' hk
    obtain ⟨a, b, rfl⟩ : ∃ (a : Fin 1024) (b : Fin 128), k' = ix2 a b := ⟨k' 0, k' 1, eq_ix2 k'⟩
    rw [Scatter.lands_row, position_at idx pos hpos, hpos] at hk
    obtain ⟨hk, rfl⟩ := hk
    have hle := h2 a (Fin.ext (by exact_mod_cast hk))
    rw [Fin.le_def, Shape.rowMajor_val_two, Shape.rowMajor_val_two]
    show a.val * 128 + b.val ≤ (last pos i).val * 128 + b.val
    have : a.val ≤ (last pos i).val := hle
    omega

/-- What it holds elsewhere: what it held. -/
theorem updated_miss (n : Fin 100000) (hn : ¬ ∃ j, pos j = n) (d : Fin 128) : Term.updated x idx bank (ix2 n d) = bank (ix2 n d) := by
  unfold Term.updated
  refine Routing.scatter_set_miss _ _ _ _ _ fun k' hk => hn ?_
  obtain ⟨a, b, rfl⟩ : ∃ (a : Fin 1024) (b : Fin 128), k' = ix2 a b := ⟨k' 0, k' 1, eq_ix2 k'⟩
  rw [Scatter.lands_row, position_at idx pos hpos, hpos] at hk
  exact ⟨a, Fin.ext (by exact_mod_cast hk.1)⟩

/-- The writer of a place the batch wrote: the last item written there. -/
theorem writer_hit (i : Fin 1024) : Term.writer idx (ix1 (pos i)) = BitVec.ofNat 32 (last pos i).val := by
  unfold Term.writer
  obtain ⟨h1, h2⟩ := isLast_last pos i
  rw [Scatter.scatter_last _ _ _ _ _ (ix1 (last pos i))]
  · rfl
  · rw [Scatter.lands_scalar, position_at idx pos hpos, hpos, h1]
  · intro k' hk
    obtain ⟨a, rfl⟩ : ∃ a : Fin 1024, k' = ix1 a := ⟨k' 0, eq_ix1 k'⟩
    rw [Scatter.lands_scalar, position_at idx pos hpos, hpos] at hk
    have hle := h2 a (Fin.ext (by exact_mod_cast hk))
    rw [Fin.le_def, Shape.rowMajor_val_one, Shape.rowMajor_val_one]
    exact hle

/-- The writer of any other place: `-1`. -/
theorem writer_miss (n : Fin 100000) (hn : ¬ ∃ j, pos j = n) : Term.writer idx (ix1 n) = 4294967295#32 := by
  unfold Term.writer
  rw [Routing.scatter_set_miss]
  · rfl
  intro k' hk
  obtain ⟨a, rfl⟩ : ∃ a : Fin 1024, k' = ix1 a := ⟨k' 0, eq_ix1 k'⟩
  rw [Scatter.lands_scalar, position_at idx pos hpos, hpos] at hk
  exact hn ⟨a, Fin.ext (by exact_mod_cast hk)⟩

/-- A similarity is the product of a unit code and a unit row of the updated bank. -/
theorem sims_at (i : Fin 1024) (n : Fin 100000) :
    Term.sims x idx bank (ix2 i n) = dot (unit (rowOf x i)) (unit (rowOf (Term.updated x idx bank) n)) := by
  pointwise [Term.sims]
  simp only [unitCodes_at, unitBank_at]
  rfl

/-- An index is the word of its position. -/
theorem word_of (i : Fin 1024) : idx (ix1 i) = BitVec.ofNat 32 (pos i).val :=
  BitVec.eq_of_toInt_eq (by rw [hpos, StableHlo.Predicate.toInt_ofNat_small _ (by omega)])

/-- A gather at the batch's indices reads the table at their positions. -/
theorem gather_at {α : Type} (t : S100000.Idx → α) (i : Fin 1024) :
    Host.gather gather_S100000_S1024x1_S1024_n_0_n_n_0_1_1 t (Term.position idx) (ix1 i) = t (ix1 (pos i)) :=
  Routing.gather_take1 _ rfl rfl rfl rfl t _ i (pos i) ((position_at idx pos hpos i).trans (word_of idx pos hpos i)) (by decide)

/-! ## The results -/

/-- At a row that no item overwrites, the similarity is with the bank's own row. -/
theorem sims_miss (i : Fin 1024) (n : Fin 100000) (hn : ¬ ∃ j, pos j = n) :
    Term.sims x idx bank (ix2 i n) = dot (unit (rowOf x i)) (unit (rowOf bank n)) := by
  have e : rowOf (Term.updated x idx bank) n = rowOf bank n := funext fun d => updated_miss x idx bank pos hpos n hn d
  rw [sims_at x idx bank pos hpos, e]

/-- A row that is overwritten holds the unit code of the last item with its position. -/
theorem updated_row (j : Fin 1024) : rowOf (Term.updated x idx bank) (pos j) = unit (rowOf x (last pos j)) :=
  funext fun d => updated_hit x idx bank pos hpos j d

/-- The first result is the similarity table. -/
theorem s_at (i : Fin 1024) (c : Fin 101376) :
    Term.s x idx bank (ix2 i c) = sim (rowOf x) pos (rowOf bank) i c := by
  pointwise [Term.s, Term.sBank, Term.sOwn]
  unfold sim
  by_cases h : c.val < 100352
  · by_cases h' : c.val < 100000
    · simp only [dif_pos h, dif_pos h', if_pos h, if_pos h']
      unfold simBank
      by_cases hj : ∃ j, pos j = ⟨c.val, h'⟩
      · rw [if_pos hj]
        obtain ⟨j, hj⟩ := hj
        have hw : (BitVec.ofNat 32 (last pos j).val).toInt = (last pos j).val := StableHlo.Predicate.toInt_ofNat_small _ (by omega)
        rw [← hj, writer_hit idx pos hpos]
        have h0 : IntOp.cmpi .sge (BitVec.ofNat 32 (last pos j).val) 0#32 = 1#1 := by
          simp [IntOp.cmpi, BitVec.sle, hw]
        rw [h0]
        exact ofBits_bot
      · rw [if_neg hj, writer_miss idx pos hpos _ hj, sims_miss x idx bank pos hpos _ _ hj]
        rfl
    · simp only [dif_pos h, dif_neg h', if_pos h, if_neg h']
      exact ofBits_bot
  · simp only [dif_neg h, if_neg h]
    generalize hj : (⟨c.val - 100352, by omega⟩ : Fin 1024) = j
    have hv : c.val - 100352 = j.val := by rw [← hj]
    rw [gather_at idx pos hpos, Scatter.gather_column _ _ _ _ (pos j) (by rw [position_at idx pos hpos, hpos]),
      writer_hit idx pos hpos, hv, sims_at x idx bank pos hpos, updated_row x idx bank pos hpos]
    unfold simOwn
    obtain ⟨h1, h2⟩ := isLast_last pos j
    by_cases hk : ∃ k, j < k ∧ pos k = pos j
    · rw [if_pos hk]
      obtain ⟨k, hk1, hk2⟩ := hk
      have hne : (last pos j).val ≠ j.val := by
        have := h2 k hk2
        have : k.val ≤ (last pos j).val := this
        have : j.val < k.val := hk1
        omega
      have h0 : IntOp.cmpi .eq (BitVec.ofNat 32 (last pos j).val) (BitVec.ofNat 32 j.val) = 0#1 := by
        rw [WordCmp.cmpi_eq_ofNat (by omega) (by omega), decide_eq_false hne]
        rfl
      rw [h0]
      exact ofBits_bot
    · rw [if_neg hk]
      have he : last pos j = j := by
        refine le_antisymm (not_lt.1 fun hlt => hk ⟨_, hlt, h1⟩) (h2 j rfl)
      rw [he]
      simp [IntOp.cmpi, Scalar.select]

/-- The second result is the table's maxima over runs of 32 columns. -/
theorem chunkMax_at (t : Fin 99) (i : Fin 1024) (k : Fin 32) :
    Term.chunkMax (Term.s x idx bank) (ix3 t i k) = chunk (rowOf x) pos (rowOf bank) t i k := by
  pointwise [Term.chunkMax]
  unfold chunk
  rw [ofBits_bot]
  refine congrArg (fun f => Finset.fold max ⊥ f Finset.univ) (funext fun y => ?_)
  exact s_at x idx bank pos hpos i (column t k y)

end Written

end Cert.RefAt

end
-- ==== Proof.RefLabels.lean ====
/- The reference's two results of labels read at an entry, in the words of Spec.lean. -/
module

public import proofs.«01_k».proof.Proof.RefAt

@[expose] public section

noncomputable section

namespace Cert.RefAt

open Idealize.ShloMosaic Cert.Spec Cert.ReferenceIdeal Cert.ReferenceIdeal.Gen

/-- A label as a 32-bit word, then as a number. -/
theorem sitofp_label (c : Fin 100) : FloatOps.sitofp (F := Ideal) .f32 (BitVec.ofNat 32 c.val) = number c := by
  show (((BitVec.ofNat 32 c.val).toInt : ℝ) : EReal) = _
  rw [StableHlo.Predicate.toInt_ofNat_small _ (by omega)]
  rfl

/-- The transposed centroids hold the unit centroids as columns. -/
theorem unitColumns_at (cents : FVec Ideal S100x128 .f32) (d : Fin 128) (c : Fin 100) :
    Term.unitColumns cents (ix2 d c) = unit (rowOf cents c) d := by
  pointwise [Term.unitColumns]
  exact unitCentroids_at cents c d

/-- The labels of a bank's rows, as a table. -/
theorem bankLabels_eq (y : FVec Ideal S100000x128 .f32) (cents : FVec Ideal S100x128 .f32) :
    Term.bankLabels y cents = fun j => BitVec.ofNat 32 (best fun c =>
      Host.dotGeneral dot_S100000x128_S128x100_S100000x100_1_0_0_1_n_n none (Term.unitBank y) (Term.unitColumns cents) (ix2 (j 0) c)).val := by
  have e : Term.bankLabels y cents = fun j => (Host.argReduce reducer_argmax_f32_i32 (Host.dotGeneral dot_S100000x128_S128x100_S100000x100_1_0_0_1_n_n none (Term.unitBank y) (Term.unitColumns cents))
      (iotaInDim S100000x100 32 1) (constant S_ .f32 0xFF800000#32) (constantI S_ 32 0#32) reducesTo_S100000x100_S100000_d1 h_S_ j).2 := rfl
  rw [e]
  exact Argmax.argmax_eq _ _ _ _ _ _ (fun j c => ix2 (j 0) c)
    (fun j i => by rw [eq_ix1 j]; exact Argmax.drop_row reducesTo_S100000x100_S100000_d1 i (j 0))
    (fun _ _ => rfl) (fun _ => ofBits_bot) (fun _ => rfl)

/-- The labels of a bank's rows, read at a row. -/
theorem bankLabels_at (y : FVec Ideal S100000x128 .f32) (cents : FVec Ideal S100x128 .f32) (n : Fin 100000) :
    Term.bankLabels y cents (ix1 n) = BitVec.ofNat 32 (label (rowOf cents) (rowOf y n)).val := by
  rw [bankLabels_eq]
  refine congrArg (fun f => BitVec.ofNat 32 (best f).val) (funext fun c => ?_)
  show Host.dotGeneral dot_S100000x128_S128x100_S100000x100_1_0_0_1_n_n none (Term.unitBank y) (Term.unitColumns cents) (ix2 n c) = _
  pointwise []
  simp only [unitBank_at, unitColumns_at]
  rfl

/-- The labels of the rows of the padded bank with the batch's below it, as a table. -/
theorem rowLabels_eq (y : FVec Ideal S101376x128 .f32) (cents : FVec Ideal S100x128 .f32) :
    Term.rowLabels y cents = fun j => BitVec.ofNat 32 (best fun c =>
      Host.dotGeneral dot_S101376x128_S128x100_S101376x100_1_0_0_1_n_n none (Term.unitRows y) (Term.unitColumns cents) (ix2 (j 0) c)).val := by
  have e : Term.rowLabels y cents = fun j => (Host.argReduce reducer_argmax_f32_i32 (Host.dotGeneral dot_S101376x128_S128x100_S101376x100_1_0_0_1_n_n none (Term.unitRows y) (Term.unitColumns cents))
      (iotaInDim S101376x100 32 1) (constant S_ .f32 0xFF800000#32) (constantI S_ 32 0#32) reducesTo_S101376x100_S101376_d1 h_S_ j).2 := rfl
  rw [e]
  exact Argmax.argmax_eq _ _ _ _ _ _ (fun j c => ix2 (j 0) c)
    (fun j i => by rw [eq_ix1 j]; exact Argmax.drop_row reducesTo_S101376x100_S101376_d1 i (j 0))
    (fun _ _ => rfl) (fun _ => ofBits_bot) (fun _ => rfl)

/-- The labels of the rows of the padded bank with the batch's below it, read at a row. -/
theorem rowLabels_at (y : FVec Ideal S101376x128 .f32) (cents : FVec Ideal S100x128 .f32) (n : Fin 101376) :
    Term.rowLabels y cents (ix1 n) = BitVec.ofNat 32 (label (rowOf cents) (rowOf y n)).val := by
  rw [rowLabels_eq]
  refine congrArg (fun f => BitVec.ofNat 32 (best f).val) (funext fun c => ?_)
  show Host.dotGeneral dot_S101376x128_S128x100_S101376x100_1_0_0_1_n_n none (Term.unitRows y) (Term.unitColumns cents) (ix2 n c) = _
  pointwise []
  simp only [unitRows_at, unitColumns_at]
  rfl

/-- The fourth result: the label of what the written bank holds at the index. -/
theorem labq_at (x : FVec Ideal S1024x128 .f32) (idx : IVec S1024 32) (bank : FVec Ideal S100000x128 .f32)
    (pos : Fin 1024 → Fin 100000) (hpos : ∀ i, (idx (ix1 i)).toInt = ((pos i).val : Int))
    (cents : FVec Ideal S100x128 .f32) (i : Fin 1024) :
    Term.labq x idx bank cents (ix2 i 0) = ownLabel (rowOf x) pos (rowOf cents) i := by
  unfold Term.labq
  generalize ht : Term.bankLabels (Term.updated x idx bank) cents = T
  generalize hp : Term.position idx = P
  pointwise []
  rw [← hp, gather_at idx pos hpos, ← ht, bankLabels_at, sitofp_label, updated_row x idx bank pos hpos]
  rfl

/-- A row to be labelled is the bank's, a zero row of the padding, or a unit code. -/
theorem rows_at (x : FVec Ideal S1024x128 .f32) (bank : FVec Ideal S100000x128 .f32) (n : Fin 101376) :
    rowOf (Term.rows x bank) n = bankRow (rowOf x) (rowOf bank) n := by
  funext d
  unfold bankRow
  show Term.rows x bank (ix2 n d) = _
  pointwise [Term.rows]
  by_cases h : n.val < 100352
  · by_cases h' : n.val < 100000
    · simp only [dif_pos h, dif_pos h', if_pos h, if_pos h']
      rfl
    · simp only [dif_pos h, dif_neg h', if_pos h, if_neg h']
      show (((0#32).toInt : ℝ) : EReal) = _
      simp
  · simp only [dif_neg h, if_neg h]
    exact unitCodes_at x _ d

/-- The third result: the labels of the padded bank's rows and of the batch's. -/
theorem lab_at (x : FVec Ideal S1024x128 .f32) (bank : FVec Ideal S100000x128 .f32) (cents : FVec Ideal S100x128 .f32)
    (t : Fin 99) (r : Fin 1024) :
    Term.lab x bank cents (ix3 t r 0) = blockLabel (rowOf x) (rowOf bank) (rowOf cents) t r := by
  unfold Term.lab
  generalize hL : Term.rowLabels (Term.rows x bank) cents = L
  pointwise []
  rw [← hL, rowLabels_at, rows_at, sitofp_label]
  rfl

end Cert.RefAt

end
-- ==== Proof.Lanes.lean ====
/- The kernel's small devices, each with what it computes: "some entry is one" read off a maximum, the first of the best
   lanes read off a minimum of lane numbers, the last matching item read off an integer maximum, and a table read by a
   product with a row that is one at one place. -/
module

public import proofs.«01_k».proof.Proof.RefLabels
public import proofs.«01_k».proof.Proof.Gen.KernelIdeal.Skeleton
public import Idealize.ShloMosaic.Lib.SortNet.Extract
public import Idealize.ShloMosaic.Lib.WordCmp

@[expose] public section

noncomputable section

namespace Cert.Lanes

open Cert.Spec Idealize.ShloMosaic

/-! ## Constants -/

theorem ofBits_top : Ideal.ofBits .f32 2139095040#32 = ⊤ := by simp [Ideal.ofBits, Ideal.ieee]
theorem ofBits_bot : Ideal.ofBits .f32 4286578688#32 = ⊥ := by simp [Ideal.ofBits, Ideal.ieee]

theorem ofBits_hundred : Ideal.ofBits .f32 1120403456#32 = ((100 : ℝ) : EReal) := by
  simp [Ideal.ofBits, Ideal.ieee]
  norm_num
  rw [← EReal.coe_mul]
  norm_num

theorem ofBits_billion : Ideal.ofBits .f32 1315859240#32 = ((1000000000 : ℝ) : EReal) := by
  simp [Ideal.ofBits, Ideal.ieee]
  norm_num
  rw [← EReal.coe_pow, ← EReal.coe_mul]
  norm_num

/-- The named mask is minus infinity. -/
theorem mask_bot : Named.named (F := Ideal) Cert.KernelIdeal.κ "mask" (φ := .f32) 4048155338#32 = (⊥ : EReal) := by
  rfl

/-! ## Some entry is one -/

/-- The maximum of a row of ones and zeros exceeds zero exactly where one of them is a one. -/
theorem some_one {ι : Type} [Fintype ι] (p : ι → Bool) :
    (0 : EReal) < Finset.fold max ⊥ (fun x => Scalar.select (BitVec.ofBool (p x)) (1 : EReal) 0) Finset.univ ↔ ∃ x, p x = true := by
  rw [Finset.lt_fold_max]
  constructor
  · rintro (h | ⟨x, -, h⟩)
    · exact absurd h (by simp)
    · refine ⟨x, ?_⟩
      by_contra hp
      rw [Bool.not_eq_true] at hp
      simp [hp, Scalar.select] at h
  · rintro ⟨x, hx⟩
    exact .inr ⟨x, Finset.mem_univ _, by simp [hx, Scalar.select]⟩

/-! ## The first of the best lanes -/

/-- A lane's number is below the kernel's stand-in for lanes that lose. -/
theorem number_le (c : Fin 100) : number c ≤ ((1000000000 : ℝ) : EReal) := by
  unfold number
  exact_mod_cast (by omega : (c.val : ℤ) ≤ 1000000000)

/-- Lane numbers keep the lanes' order. -/
theorem number_mono {c d : Fin 100} (h : c ≤ d) : number c ≤ number d := by
  unfold number
  exact_mod_cast h

/-- Of 128 lanes the first hundred hold `f` and the others the mask: the least number among the lanes that hold the
    maximum is the first best place of `f`. -/
theorem first_best (f : Fin 100 → EReal) (g : Fin 128 → EReal) (n : Fin 128 → EReal) (hg : ∀ c : Fin 100, g ⟨c.val, by omega⟩ = f c)
    (hm : ∀ l : Fin 128, 100 ≤ l.val → g l = ⊥) (hn : ∀ c : Fin 100, n ⟨c.val, by omega⟩ = number c)
    (hN : ∀ l : Fin 128, 100 ≤ l.val → ∀ c, number c ≤ n l) :
    Finset.fold min ⊤ (fun l => if g l = Finset.fold max ⊥ g Finset.univ then n l else ((1000000000 : ℝ) : EReal)) Finset.univ = number (best f) := by
  have hb := isBest_best f
  have hmax : Finset.fold max ⊥ g Finset.univ = f (best f) := by
    refine le_antisymm ?_ ?_
    · rw [Finset.fold_max_le]
      refine ⟨bot_le, fun l _ => ?_⟩
      by_cases h : l.val < 100
      · exact (hg ⟨l.val, h⟩).trans_le (hb.1 _)
      · rw [hm l (by omega)]
        exact bot_le
    · rw [Finset.le_fold_max]
      exact .inr ⟨_, Finset.mem_univ _, (hg (best f)).ge⟩
  rw [hmax]
  refine le_antisymm ?_ ?_
  · rw [Finset.fold_min_le]
    exact .inr ⟨⟨(best f).val, by omega⟩, Finset.mem_univ _, by rw [if_pos (hg _), hn]⟩
  · rw [Finset.le_fold_min]
    refine ⟨le_top, fun l _ => ?_⟩
    split
    · next h =>
      by_cases hl : l.val < 100
      · have e : n l = number ⟨l.val, hl⟩ := hn ⟨l.val, hl⟩
        rw [e]
        exact number_mono (hb.2 ⟨l.val, hl⟩ ((hg ⟨l.val, hl⟩).symm.trans h))
      · exact hN l (by omega) _
    · exact number_le _

/-- A lane's number as an f32. -/
theorem sitofp_lane (l : Fin 128) : FloatOps.sitofp (F := Ideal) .f32 (BitVec.ofNat 32 l.val) = ((l.val : ℝ) : EReal) := by
  show (((BitVec.ofNat 32 l.val).toInt : ℝ) : EReal) = _
  rw [StableHlo.Predicate.toInt_ofNat_small _ (by omega)]
  rfl

/-! ## The last matching item -/

/-- Of the numbers of the matching items, `-1` standing for the others, the signed maximum is the last match's. -/
theorem last_match (p : Fin 1024 → Bool) (j : Fin 1024) (hj : p j = true) (hl : ∀ k, p k = true → k ≤ j) :
    Finset.fold IntOp.maxsi (2147483648#32) (fun x : Fin 1024 => Scalar.select (BitVec.ofBool (p x)) (BitVec.ofNat 32 x.val) 4294967295#32) Finset.univ
      = BitVec.ofNat 32 j.val := by
  have toInt_fold : ∀ (s : Finset (Fin 1024)) (f : Fin 1024 → BitVec 32) (b : BitVec 32),
      (Finset.fold IntOp.maxsi b f s).toInt = Finset.fold max b.toInt (fun x => (f x).toInt) s := by
    intro s f b
    induction s using Finset.induction_on with
    | empty => rfl
    | insert a s ha ih => rw [Finset.fold_insert ha, Finset.fold_insert ha, SortNet.toInt_maxsi, ih]
  have hw : ∀ x : Fin 1024, (BitVec.ofNat 32 x.val).toInt = (x.val : Int) := fun x => StableHlo.Predicate.toInt_ofNat_small _ (by omega)
  refine BitVec.eq_of_toInt_eq ?_
  rw [toInt_fold, hw]
  refine le_antisymm ?_ ?_
  · rw [Finset.fold_max_le]
    refine ⟨(by decide : (2147483648#32).toInt ≤ 0).trans (by omega), fun x _ => ?_⟩
    cases hx : p x
    · exact (by decide : (4294967295#32).toInt ≤ 0).trans (by omega)
    · have := hl x hx
      show (BitVec.ofNat 32 x.val).toInt ≤ _
      rw [hw]
      exact_mod_cast this
  · rw [Finset.le_fold_max]
    refine .inr ⟨j, Finset.mem_univ _, ?_⟩
    rw [hj]
    exact (hw j).ge

/-! ## A table read at one place by a product -/

/-- A product with the one-hot row of place j gives the table's entry at j. -/
theorem pick (l : Fin 1024 → EReal) (j : Fin 1024) :
    ∑ x : Fin 1024, FloatOps.sitofp (F := Ideal) .f32 (BitVec.setWidth 32 (IntOp.cmpi .eq (BitVec.ofNat 32 x.val) (BitVec.ofNat 32 j.val))) * l x = l j := by
  have h : ∀ x : Fin 1024, FloatOps.sitofp (F := Ideal) .f32 (BitVec.setWidth 32 (IntOp.cmpi .eq (BitVec.ofNat 32 x.val) (BitVec.ofNat 32 j.val)))
      = if x = j then (1 : EReal) else 0 := by
    intro x
    rw [WordCmp.cmpi_eq_ofNat (w := 32) (by omega) (by omega)]
    by_cases hx : x = j
    · subst hx
      rw [if_pos rfl, decide_eq_true rfl]
      show (((BitVec.setWidth 32 (BitVec.ofBool true)).toInt : ℝ) : EReal) = 1
      rw [show (BitVec.setWidth 32 (BitVec.ofBool true)).toInt = 1 by decide]
      simp
    · rw [if_neg hx, decide_eq_false fun e => hx (Fin.ext e)]
      show (((BitVec.setWidth 32 (BitVec.ofBool false)).toInt : ℝ) : EReal) = 0
      rw [show (BitVec.setWidth 32 (BitVec.ofBool false)).toInt = 0 by decide]
      simp
  simp [h]

end Cert.Lanes

end
-- ==== Proof.KernelBlock.lean ====
/- One grid point's computation at an index: the unit rows, the masked similarities, the maxima of runs of columns, the
   labels, and the last point's labels of the batch. -/
module

public import proofs.«01_k».proof.Proof.KernelOut
public import proofs.«01_k».proof.Proof.Lanes

@[expose] public section

set_option maxRecDepth 16384

noncomputable section

namespace Cert.KernelBlock

open Cert.KernelIdeal Cert.KernelIdeal.Gen Cert.KernelOut Cert.Spec Cert.RefAt Idealize.ShloMosaic

/-- Row `i` of a block of the bank. -/
def bankBlockRow (x : FVec Ideal S1x1024x128 .f32) (i : Fin 1024) : Row := fun d => x (ix3 0 i d)

/-! ## Unit rows -/

/-- The kernel's normalised codes are the unit rows of the codes. -/
theorem unit_codes (x : FVec Ideal S1024x128 .f32) (i : Fin 1024) (d : Fin 128) : k0_pay1 (F := Ideal) x (ix2 i d) = unit (rowOf x i) d := by
  pointwise [k0_pay1]
  rfl

/-- Nor does the cast to bf16 change them. -/
theorem unit_codes16 (x : FVec Ideal S1024x128 .f32) (i : Fin 1024) (d : Fin 128) : k0_pay2 (F := Ideal) x (ix2 i d) = unit (rowOf x i) d :=
  unit_codes x i d

/-- The codes normalised twice are the unit rows, once more made unit. -/
theorem unit_again (x : FVec Ideal S1024x128 .f32) (i : Fin 1024) (d : Fin 128) : k0_pay40 (F := Ideal) x (ix2 i d) = unit (rowOf x i) d :=
  unit_codes x i d

/-- Nor does the cast to bf16 change those. -/
theorem unit_again16 (x : FVec Ideal S1024x128 .f32) (i : Fin 1024) (d : Fin 128) : k0_pay43 (F := Ideal) x (ix2 i d) = unit (rowOf x i) d :=
  unit_codes x i d

/-- The kernel's normalised centroids are unit rows. -/
theorem unit_cents (x : FVec Ideal S128x128 .f32) (i d : Fin 128) : k0_pay3 (F := Ideal) x (ix2 i d) = unit (rowOf x i) d := by
  pointwise [k0_pay3]
  rfl

/-- The normalised block of the bank has unit rows. -/
theorem unit_bank (x : FVec Ideal S1x1024x128 .f32) (i : Fin 1024) (d : Fin 128) : k0_pay9 (F := Ideal) x (ix2 i d) = unit (bankBlockRow x i) d := by
  pointwise [k0_pay9]
  rfl

/-- A row of the normalised codes is a unit row. -/
theorem rowOf_unit (x : FVec Ideal S1024x128 .f32) (i : Fin 1024) : rowOf (k0_pay1 (F := Ideal) x) i = unit (rowOf x i) :=
  funext fun d => unit_codes x i d

/-! ## Masked similarities -/

/-- A bank row's entry: masked if the batch writes the row, or if the row is beyond the bank's end. -/
theorem bankSims_at (t : Fin 98) (x0 : FVec Ideal S1024x128 .f32) (x1 : FVec Ideal S1x1024x128 .f32) (x3 : IVec S1024x1 32)
    (pos : Fin 1024 → Fin 100000) (h3 : ∀ i, x3 (ix2 i 0) = BitVec.ofNat 32 (pos i).val) (i j : Fin 1024) :
    bankSims (F := Ideal) (BitVec.ofNat 32 t.val) x0 x1 x3 (ix2 i j)
      = if (∃ k, (pos k).val = t.val * 1024 + j.val) ∨ 100000 ≤ t.val * 1024 + j.val then ⊥
        else dot (unit (rowOf x0 i)) (unit (bankBlockRow x1 j)) := by
  pointwise [bankSims, k0_pay12, k0_pay8, k0_pay4, cols]
  have hw : IntOp.addi (BitVec.ofNat 32 j.val) (Scalar.muli (BitVec.ofNat 32 t.val) 1024#32) = BitVec.ofNat 32 (t.val * 1024 + j.val) := by
    show BitVec.ofNat 32 j.val + BitVec.ofNat 32 t.val * BitVec.ofNat 32 1024 = _
    rw [← BitVec.ofNat_mul, ← BitVec.ofNat_add, Nat.add_comm]
  simp only [hw, h3, Lanes.ofBits_bot, Lanes.mask_bot, unit_codes16, unit_bank]
  have hc : ∀ x : Fin 1024, IntOp.cmpi .eq (BitVec.ofNat 32 (pos x).val) (BitVec.ofNat 32 (t.val * 1024 + j.val))
      = BitVec.ofBool (decide ((pos x).val = t.val * 1024 + j.val)) := fun x => WordCmp.cmpi_eq_ofNat (w := 32) (by omega) (by omega)
  simp only [hc, Lanes.some_one, decide_eq_true_eq]
  rw [WordCmp.cmpi_sge_ofNat (w := 32) (by omega) (by omega), WordCmp.ori_ofBool, ← Bool.decide_or]
  unfold Scalar.select
  simp only [WordCmp.ofBool_eq_one_iff', decide_eq_true_eq]
  rfl

/-- An own row's entry: masked if a later item of the batch writes the same place. -/
theorem ownSims_at (x0 : FVec Ideal S1024x128 .f32) (x3 : IVec S1024x1 32) (x4 : IVec S1x1x1024 32)
    (pos : Fin 1024 → Fin 100000) (h3 : ∀ i, x3 (ix2 i 0) = BitVec.ofNat 32 (pos i).val) (h4 : ∀ i, x4 (ix3 0 0 i) = BitVec.ofNat 32 (pos i).val)
    (i j : Fin 1024) :
    ownSims (F := Ideal) x0 x3 x4 (ix2 i j) = simOwn (rowOf x0) pos i j := by
  pointwise [ownSims, k0_pay46, k0_pay42, k0_pay41, k0_pay4, cols, rowNos]
  have hc : ∀ x : Fin 1024, IntOp.andi (IntOp.cmpi .eq (BitVec.ofNat 32 (pos x).val) (BitVec.ofNat 32 (pos j).val))
      (IntOp.cmpi .sgt (BitVec.ofNat 32 x.val) (BitVec.ofNat 32 j.val)) = BitVec.ofBool (decide ((pos x).val = (pos j).val) && decide (j.val < x.val)) :=
    fun x => by rw [WordCmp.cmpi_eq_ofNat (w := 32) (by omega) (by omega), WordCmp.cmpi_sgt_ofNat (w := 32) (by omega) (by omega), WordCmp.andi_ofBool]
  simp only [h3, h4, hc, Lanes.ofBits_bot, Lanes.mask_bot, Lanes.some_one, unit_codes16, unit_again16, rowOf_unit, Bool.and_eq_true, decide_eq_true_eq]
  unfold simOwn
  have he : (∃ x, (pos x).val = (pos j).val ∧ j.val < x.val) ↔ ∃ k, j < k ∧ pos k = pos j :=
    exists_congr fun k => by rw [and_comm, Fin.lt_def, Fin.ext_iff]
  by_cases h : ∃ k, j < k ∧ pos k = pos j
  · rw [if_pos h, if_pos (he.2 h)]
  · rw [if_neg h, if_neg (mt he.1 h)]
    rfl

/-! ## Labels -/

/-- The label of a row: the number of the first of the hundred centroids with the greatest scalar product. -/
theorem label_at (cents : Fin 100 → Row) (x2 : FVec Ideal S128x128 .f32) (h2 : ∀ c : Fin 100, rowOf x2 ⟨c.val, by omega⟩ = cents c)
    (v : FVec Ideal S1024x128 .f32) (i : Fin 1024) :
    k0_pay77 (F := Ideal) (k0_pay3 x2) v (ix2 i 0) = number (best fun c => dot (rowOf v i) (unit (cents c))) := by
  pointwise [k0_pay77]
  simp only [Lanes.ofBits_bot, Lanes.ofBits_top, Lanes.mask_bot, Lanes.ofBits_hundred, Lanes.ofBits_billion, Lanes.sitofp_lane, unit_cents]
  refine Lanes.first_best _ (fun l => if ((100 : ℝ) : EReal) ≤ ((l.val : ℝ) : EReal) then ⊥ else ∑ d, v (ix2 i d) * unit (rowOf x2 l) d)
    (fun l => ((l.val : ℝ) : EReal)) ?_ ?_ ?_ ?_
  · intro c
    have : ¬ ((100 : ℝ) : EReal) ≤ ((c.val : ℝ) : EReal) := by
      rw [EReal.coe_le_coe_iff, not_le]
      exact_mod_cast c.isLt
    beta_reduce
    rw [if_neg this, h2]
    rfl
  · intro l hl
    exact if_pos (by rw [EReal.coe_le_coe_iff]; exact_mod_cast hl)
  · intro c
    rfl
  · intro l hl c
    unfold number
    exact_mod_cast (by omega : (c.val : ℤ) ≤ l.val)

/-- The label of a row of a block of the bank. -/
theorem bankLabel_at (cents : Fin 100 → Row) (x2 : FVec Ideal S128x128 .f32) (h2 : ∀ c : Fin 100, rowOf x2 ⟨c.val, by omega⟩ = cents c)
    (x1 : FVec Ideal S1x1024x128 .f32) (i : Fin 1024) :
    k0_pay11 (F := Ideal) (k0_pay10 (k0_pay3 x2) x1) (ix3 0 i 0) = number (label cents (bankBlockRow x1 i)) := by
  have e : k0_pay10 (F := Ideal) (k0_pay3 x2) x1 = k0_pay77 (F := Ideal) (k0_pay3 x2) (k0_pay9 (F := Ideal) x1) := rfl
  rw [e]
  generalize hL : k0_pay77 (F := Ideal) (k0_pay3 x2) (k0_pay9 (F := Ideal) x1) = L
  pointwise [k0_pay11]
  rw [← hL, label_at cents x2 h2]
  have r : rowOf (k0_pay9 (F := Ideal) x1) i = unit (bankBlockRow x1 i) := funext fun d => unit_bank x1 i d
  rw [r]
  rfl

theorem rowOf_twice (x0 : FVec Ideal S1024x128 .f32) (i : Fin 1024) :
    rowOf (k0_pay40 (F := Ideal) (k0_pay1 x0)) i = unit (unit (rowOf x0 i)) :=
  funext fun d => by
    show k0_pay40 (F := Ideal) (k0_pay1 x0) (ix2 i d) = _
    rw [unit_again, rowOf_unit]

/-- The label of a batch row. -/
theorem rowLabel_at (cents : Fin 100 → Row) (x2 : FVec Ideal S128x128 .f32) (h2 : ∀ c : Fin 100, rowOf x2 ⟨c.val, by omega⟩ = cents c)
    (x0 : FVec Ideal S1024x128 .f32) (i : Fin 1024) :
    k0_pay77 (F := Ideal) (k0_pay3 x2) (k0_pay40 (k0_pay1 x0)) (ix2 i 0) = number (label cents (unit (rowOf x0 i))) := by
  rw [label_at cents x2 h2, rowOf_twice]
  rfl

/-- The last point's block of labels. -/
theorem lastLabel_at (cents : Fin 100 → Row) (x2 : FVec Ideal S128x128 .f32) (h2 : ∀ c : Fin 100, rowOf x2 ⟨c.val, by omega⟩ = cents c)
    (x0 : FVec Ideal S1024x128 .f32) (i : Fin 1024) :
    k0_pay45 (F := Ideal) (k0_pay44 (k0_pay1 x0) (k0_pay3 x2)) (ix3 0 i 0) = number (label cents (unit (rowOf x0 i))) := by
  have e : k0_pay44 (F := Ideal) (k0_pay1 x0) (k0_pay3 x2) = k0_pay77 (F := Ideal) (k0_pay3 x2) (k0_pay40 (k0_pay1 x0)) := rfl
  rw [e]
  generalize hL : k0_pay77 (F := Ideal) (k0_pay3 x2) (k0_pay40 (k0_pay1 x0)) = L
  pointwise [k0_pay45]
  rw [← hL, rowLabel_at cents x2 h2]

/-- The number of the last item written to the place item `i` is written to. -/
theorem lastWord_at (x3 : IVec S1024x1 32) (x4 : IVec S1x1x1024 32) (pos : Fin 1024 → Fin 100000)
    (h3 : ∀ i, x3 (ix2 i 0) = BitVec.ofNat 32 (pos i).val) (h4 : ∀ i, x4 (ix3 0 0 i) = BitVec.ofNat 32 (pos i).val) (i : Fin 1024) :
    k0_pay76 cols (k0_pay41 (F := Ideal) (k0_pay4 (F := Ideal) x3) x4) (ix2 i 0) = BitVec.ofNat 32 (last pos i).val := by
  pointwise [k0_pay76, k0_pay41, k0_pay4, cols]
  have hc : ∀ x : Fin 1024, IntOp.cmpi .eq (BitVec.ofNat 32 (pos i).val) (BitVec.ofNat 32 (pos x).val) = BitVec.ofBool (decide (pos i = pos x)) :=
    fun x => by rw [WordCmp.cmpi_eq_ofNat (w := 32) (by omega) (by omega)]; simp only [Fin.ext_iff]
  simp only [h3, h4, hc]
  obtain ⟨h1, h2⟩ := isLast_last pos i
  exact Lanes.last_match _ (last pos i) (decide_eq_true h1.symm) fun k hk => h2 k (of_decide_eq_true hk).symm

/-- The last point's labels of what the bank holds at the batch's places. -/
theorem ownLabel_at (cents : Fin 100 → Row) (x0 : FVec Ideal S1024x128 .f32) (x2 : FVec Ideal S128x128 .f32)
    (h2 : ∀ c : Fin 100, rowOf x2 ⟨c.val, by omega⟩ = cents c) (x3 : IVec S1024x1 32) (x4 : IVec S1x1x1024 32) (pos : Fin 1024 → Fin 100000)
    (h3 : ∀ i, x3 (ix2 i 0) = BitVec.ofNat 32 (pos i).val) (h4 : ∀ i, x4 (ix3 0 0 i) = BitVec.ofNat 32 (pos i).val) (i : Fin 1024) :
    k0_pay7 (F := Ideal) (k0_pay76 cols (k0_pay41 (F := Ideal) (k0_pay4 (F := Ideal) x3) x4)) (k0_pay77 (k0_pay3 x2) (k0_pay40 (k0_pay1 x0))) (k0_pay78 cols)
      (ix2 i 0) = ownLabel (rowOf x0) pos cents i := by
  generalize hW : k0_pay76 cols (k0_pay41 (F := Ideal) (k0_pay4 (F := Ideal) x3) x4) = W
  generalize hL : k0_pay77 (F := Ideal) (k0_pay3 x2) (k0_pay40 (k0_pay1 x0)) = L
  pointwise [k0_pay7, k0_pay78, cols]
  rw [← hW, lastWord_at x3 x4 pos h3 h4 i, Lanes.pick fun x => L (ix2 x 0), ← hL]
  exact rowLabel_at cents x2 h2 x0 (last pos i)

end Cert.KernelBlock

end
-- ==== Proof.KernelIn.lean ====
/- The blocks a grid point reads, in terms of the arguments: the batch, the point's 1024 rows of the bank (rows of zeros
   beyond its end), the centroids, and the batch's indices as a column and as a row. -/
module

public import proofs.«01_k».proof.Proof.KernelBlock
public import proofs.«01_k».proof.Proof.Gen.KernelIdeal.Value

@[expose] public section

set_option maxRecDepth 16384

noncomputable section

namespace Cert.KernelIn

open Cert.KernelIdeal Cert.KernelIdeal.Gen Cert.KernelIdeal.Value Cert.Spec Cert.RefAt Cert.KernelBlock Idealize.ShloMosaic Idealize.ShloMosaic.TcCoe Idealize.SL.Sem

variable (m : (ℓ : Loc nD τ sig) → Buf (Elt Ideal) ℓ) (c : Dev nD)

/-- The batch. -/
abbrev codes : FVec Ideal S1024x128 .f32 := m ((c : Thread nD τ).loc main_arg0)
/-- The batch's indices. -/
abbrev idx : IVec S1024 32 := m ((c : Thread nD τ).loc main_arg1)
/-- The bank. -/
abbrev bank : FVec Ideal S100000x128 .f32 := m ((c : Thread nD τ).loc main_arg2)
/-- The centroids. -/
abbrev cents : FVec Ideal S100x128 .f32 := m ((c : Thread nD τ).loc main_arg3)

/-! ## What the host's operations leave -/

/-- The bank as the call gets it: padded with zeros and cut into 98 tiles. -/
theorem V_bank : (V m c main_v1 : FVec Ideal S98x1024x128 .f32) = shapeCast S98x1024x128
    (pad S100352x128 ![0, 0] ![352, 0] ![0, 0] (bank m c) (sitofp .f32 (constantI S_ 32 0#32)) pads_S100000x128_S100352x128_03520_000 h_S_)
    shapeCasts_S100352x128_S98x1024x128 := by
  show StableHlo.after (List.flatten [hostOps0, hostOps0_1, hostOps0_2, hostOps0_3, hostOps0_4]) _ (Proc.devRef .tc main_v1) = _
  simp only [List.flatten_cons, List.flatten_nil, List.append_nil, List.cons_append, List.nil_append]
  after_results
  rfl

/-- The centroids as the call gets them: padded to 128 rows. -/
theorem V_cents : (V m c main_v2 : FVec Ideal S128x128 .f32) =
    pad S128x128 ![0, 0] ![28, 0] ![0, 0] (cents m c) (sitofp .f32 (constantI S_ 32 0#32)) pads_S100x128_S128x128_0280_000 h_S_ := by
  show StableHlo.after (List.flatten [hostOps0, hostOps0_1, hostOps0_2, hostOps0_3, hostOps0_4]) _ (Proc.devRef .tc main_v2) = _
  simp only [List.flatten_cons, List.flatten_nil, List.append_nil, List.cons_append, List.nil_append]
  after_results
  rfl

/-- The indices as a column. -/
theorem V_column : (V m c main_v3 : IVec S1024x1 32) = shapeCast S1024x1 (idx m c) shapeCasts_S1024_S1024x1 := by
  show StableHlo.after (List.flatten [hostOps0, hostOps0_1, hostOps0_2, hostOps0_3, hostOps0_4]) _ (Proc.devRef .tc main_v3) = _
  simp only [List.flatten_cons, List.flatten_nil, List.append_nil, List.cons_append, List.nil_append]
  after_results
  rfl

/-- The indices as a row. -/
theorem V_row : (V m c main_v4 : IVec S1x1x1024 32) = shapeCast S1x1x1024 (idx m c) shapeCasts_S1024_S1x1x1024 := by
  show StableHlo.after (List.flatten [hostOps0, hostOps0_1, hostOps0_2, hostOps0_3, hostOps0_4]) _ (Proc.devRef .tc main_v4) = _
  simp only [List.flatten_cons, List.flatten_nil, List.append_nil, List.cons_append, List.nil_append]
  after_results
  rfl

/-! ## Where each window's block lies -/

theorem coord : ∀ t : Fin cfg0.N, (grid0.coords t 0).val = t.val := (by decide +kernel : ∀ t : Fin grid0.N, _)

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 3) = min t.val 97 ∧ win0_1.index t (1 : Fin 3) = 0 ∧ win0_1.index t (2 : Fin 3) = 0 :=
  (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb0 (t : Fin cfg0.N) (j : S1024x128.Idx) : ((cfg0.win 0).blk t).view.emb j = j := by
  obtain ⟨e0, e1⟩ := at0 t
  funext a; apply Fin.ext
  match a with
  | ⟨0, _⟩ => show win0_0.index t (0 : Fin 2) * 1024 + 1 * (j 0).val = (j 0).val; omega
  | ⟨1, _⟩ => show win0_0.index t (1 : Fin 2) * 128 + 1 * (j 1).val = (j 1).val; omega

theorem emb1 (t : Fin cfg0.N) (j : S1x1024x128.Idx) :
    ((cfg0.win 1).blk t).view.emb j = (ix3 (⟨min t.val 97, by omega⟩ : Fin 98) (j 1) (j 2) : S98x1024x128.Idx) := by
  obtain ⟨e0, e1, e2⟩ := at1 t
  have h0 : (j 0).val < 1 := (j 0).isLt
  funext a; apply Fin.ext
  match a with
  | ⟨0, _⟩ => show win0_1.index t (0 : Fin 3) * 1 + 1 * (j 0).val = min t.val 97; omega
  | ⟨1, _⟩ => show win0_1.index t (1 : Fin 3) * 1024 + 1 * (j 1).val = (j 1).val; omega
  | ⟨2, _⟩ => show win0_1.index t (2 : Fin 3) * 128 + 1 * (j 2).val = (j 2).val; omega

theorem emb2 (t : Fin cfg0.N) (j : S128x128.Idx) : ((cfg0.win 2).blk t).view.emb j = j := by
  obtain ⟨e0, e1⟩ := at2 t
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem emb3 (t : Fin cfg0.N) (j : S1024x1.Idx) : ((cfg0.win 3).blk t).view.emb j = j := by
  obtain ⟨e0, e1⟩ := at3 t
  funext a; apply Fin.ext
  match a with
  | ⟨0, _⟩ => show win0_3.index t (0 : Fin 2) * 1024 + 1 * (j 0).val = (j 0).val; omega
  | ⟨1, _⟩ => show win0_3.index t (1 : Fin 2) * 1 + 1 * (j 1).val = (j 1).val; omega

theorem emb4 (t : Fin cfg0.N) (j : S1x1x1024.Idx) : ((cfg0.win 4).blk t).view.emb j = j := by
  obtain ⟨e0, e1, e2⟩ := at4 t
  funext a; apply Fin.ext
  match a with
  | ⟨0, _⟩ => show win0_4.index t (0 : Fin 3) * 1 + 1 * (j 0).val = (j 0).val; omega
  | ⟨1, _⟩ => show win0_4.index t (1 : Fin 3) * 1 + 1 * (j 1).val = (j 1).val; omega
  | ⟨2, _⟩ => show win0_4.index t (2 : Fin 3) * 1024 + 1 * (j 2).val = (j 2).val; omega

/-! ## The blocks -/

/-- Each step sees all codes. -/
theorem block_codes (t : Fin cfg0.N) : (iblk m c 0 t : FVec Ideal S1024x128 .f32) = codes m c := by
  funext j
  show V m c main_arg0 (((cfg0.win 0).blk t).view.emb j) = _
  rw [emb0, V_main_arg0]

/-- An entry of the tiled bank is the bank's own, or zero beyond its end. -/
theorem V_bank_at (t : Fin 98) (j : Fin 1024) (d : Fin 128) : (V m c main_v1 : FVec Ideal S98x1024x128 .f32) (ix3 t j d)
    = if h : t.val * 1024 + j.val < 100000 then bank m c (ix2 ⟨t.val * 1024 + j.val, h⟩ d) else 0 := by
  have z : FloatOps.sitofp (F := Ideal) .f32 0#32 = (0 : EReal) := by
    show (((0#32 : BitVec 32).toInt : ℝ) : EReal) = 0
    simp
  rw [V_bank]
  generalize bank m c = B
  pointwise []
  rw [z]

/-- The first hundred rows of the padded centroids are the centroids. -/
theorem V_cents_at (k : Fin 100) (d : Fin 128) : (V m c main_v2 : FVec Ideal S128x128 .f32) (ix2 ⟨k.val, by omega⟩ d) = cents m c (ix2 k d) := by
  rw [V_cents]
  generalize cents m c = B
  pointwise []

/-- Each step sees all centroids. -/
theorem block_cents (t : Fin cfg0.N) (k : Fin 100) : rowOf (iblk m c 2 t : FVec Ideal S128x128 .f32) ⟨k.val, by omega⟩ = rowOf (cents m c) k := by
  funext d
  show V m c main_v2 (((cfg0.win 2).blk t).view.emb (ix2 ⟨k.val, by omega⟩ d)) = _
  rw [emb2]
  exact V_cents_at m c k d

/-- Bank step t sees the rows of the padded bank from t * 1024 on. -/
theorem block_bank (t : Fin cfg0.N) (ht : t.val < 98) (j : Fin 1024) : bankBlockRow (iblk m c 1 t : FVec Ideal S1x1024x128 .f32) j
    = if h : t.val * 1024 + j.val < 100000 then rowOf (bank m c) ⟨t.val * 1024 + j.val, h⟩ else fun _ => 0 := by
  funext d
  show V m c main_v1 (((cfg0.win 1).blk t).view.emb (ix3 0 j d)) = _
  rw [emb1]
  have e : (⟨min t.val 97, by omega⟩ : Fin 98) = ⟨t.val, ht⟩ := Fin.ext (show min t.val 97 = t.val by omega)
  rw [e]
  refine (V_bank_at m c ⟨t.val, ht⟩ j d).trans ?_
  split <;> rfl

/-- The column of indices holds the argument's indices. -/
theorem block_column (t : Fin cfg0.N) (i : Fin 1024) : (iblk m c 3 t : IVec S1024x1 32) (ix2 i 0) = idx m c (ix1 i) := by
  show V m c main_v3 (((cfg0.win 3).blk t).view.emb (ix2 i 0)) = _
  rw [emb3]
  show (V m c main_v3 : IVec S1024x1 32) (ix2 i 0) = _
  rw [V_column]
  generalize idx m c = B
  pointwise []

/-- The row of indices holds the argument's indices. -/
theorem block_row (t : Fin cfg0.N) (i : Fin 1024) : (iblk m c 4 t : IVec S1x1x1024 32) (ix3 0 0 i) = idx m c (ix1 i) := by
  show V m c main_v4 (((cfg0.win 4).blk t).view.emb (ix3 0 0 i)) = _
  rw [emb4]
  show (V m c main_v4 : IVec S1x1x1024 32) (ix3 0 0 i) = _
  rw [V_row]
  generalize idx m c = B
  pointwise []

end Cert.KernelIn

end
-- ==== Proof.KernelChunk.lean ====
/- The maxima of the runs of 32 columns that a grid point leaves in its block of the second result. -/
module

public import proofs.«01_k».proof.Proof.KernelOut
public import proofs.«01_k».proof.Proof.Lanes

@[expose] public section

set_option maxRecDepth 16384

noncomputable section

namespace Cert.KernelBlock

open Cert.KernelIdeal Cert.KernelIdeal.Gen Cert.KernelOut Idealize.ShloMosaic

/-- Entry `k` of row `i`: the greatest of the row's entries in run `k`. -/
theorem blockMax_at (v : FVec Ideal S1024x1024 .f32) (i : Fin 1024) (k : Fin 32) :
    blockMax v (ix3 0 i k) = Finset.univ.fold max ⊥ fun x : Fin 32 => v (ix2 i ⟨k.val * 32 + x.val, by omega⟩) := by
  pointwise [blockMax, runMax]
  exact congrArg (fun b => Finset.fold max b (fun x : Fin 32 => v (ix2 i ⟨k.val * 32 + x.val, by omega⟩)) Finset.univ) Lanes.ofBits_bot

end Cert.KernelBlock

end
-- ==== Proof.KernelArr.lean ====
/- What the four results hold after the run: every point writes its own block of each of the first three, and the last
   point the fourth. -/
module

public import proofs.«01_k».proof.Proof.KernelIn
public import proofs.«01_k».proof.Proof.KernelChunk

@[expose] public section

set_option maxRecDepth 16384

noncomputable section

namespace Cert.KernelArr

open Cert.KernelIdeal Cert.KernelIdeal.Gen Cert.KernelIdeal.Value Cert.Spec Cert.RefAt Cert.KernelBlock Cert.KernelOut Cert.KernelIn Idealize.ShloMosaic Idealize.ShloMosaic.TcCoe Idealize.SL.Sem

variable (m : (ℓ : Loc nD τ sig) → Buf (Elt Ideal) ℓ) (c : Dev nD)
variable (pos : Fin 1024 → Fin 100000) (hpos : ∀ i, (idx m c (ix1 i)).toInt = ((pos i).val : Int))

/-! ## Where the results' blocks lie -/

/-- The grid has 99 points. -/
theorem points : cfg0.N = 99 := by decide +kernel

theorem at5 : ∀ t : Fin cfg0.N, win0_5.index t (0 : Fin 2) = 0 ∧ win0_5.index t (1 : Fin 2) = t.val := (by decide +kernel : ∀ t : Fin grid0.N, _)
theorem at6 : ∀ t : Fin cfg0.N, win0_6.index t (0 : Fin 3) = t.val ∧ win0_6.index t (1 : Fin 3) = 0 ∧ win0_6.index t (2 : Fin 3) = 0 :=
  (by decide +kernel : ∀ t : Fin grid0.N, _)
theorem at7 : ∀ t : Fin cfg0.N, win0_7.index t (0 : Fin 3) = t.val ∧ win0_7.index t (1 : Fin 3) = 0 ∧ win0_7.index t (2 : Fin 3) = 0 :=
  (by decide +kernel : ∀ t : Fin grid0.N, _)
theorem at8 : ∀ t : Fin cfg0.N, win0_8.index t (0 : Fin 2) = 0 ∧ win0_8.index t (1 : Fin 2) = 0 := (by decide +kernel : ∀ t : Fin grid0.N, _)

/-- A grid point as the number of a block. -/
abbrev num (t : Fin cfg0.N) : Fin 99 := ⟨t.val, points ▸ t.isLt⟩

/-- Step t writes the similarities' columns t * 1024 to t * 1024 + 1023. -/
theorem emb5 (t : Fin cfg0.N) (j : S1024x1024.Idx) :
    ((cfg0.win 5).blk t).view.emb j = (ix2 (j 0) (⟨(num t).val * 1024 + (j 1).val, by have h : (j 1).val < 1024 := (j 1).isLt; omega⟩ : Fin 101376) : S1024x101376.Idx) := by
  obtain ⟨e0, e1⟩ := at5 t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = t.val * 1024 + (j 1).val; omega

/-- Step t writes plane t of the chunk maxima. -/
theorem emb6 (t : Fin cfg0.N) (j : S1x1024x32.Idx) : ((cfg0.win 6).blk t).view.emb j = (ix3 (num t) (j 1) (j 2) : S99x1024x32.Idx) := by
  obtain ⟨e0, e1, e2⟩ := at6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 1024 + 1 * (j 1).val = (j 1).val; omega
  | ⟨2, _⟩ => show win0_6.index t (2 : Fin 3) * 32 + 1 * (j 2).val = (j 2).val; omega

/-- Step t writes plane t of the labels. -/
theorem emb7 (t : Fin cfg0.N) (j : S1x1024x1.Idx) : ((cfg0.win 7).blk t).view.emb j = (ix3 (num t) (j 1) (j 2) : S99x1024x1.Idx) := by
  obtain ⟨e0, e1, e2⟩ := at7 t
  have h0 : (j 0).val < 1 := (j 0).isLt
  funext a; apply Fin.ext
  match a with
  | ⟨0, _⟩ => show win0_7.index t (0 : Fin 3) * 1 + 1 * (j 0).val = t.val; omega
  | ⟨1, _⟩ => show win0_7.index t (1 : Fin 3) * 1024 + 1 * (j 1).val = (j 1).val; omega
  | ⟨2, _⟩ => show win0_7.index t (2 : Fin 3) * 1 + 1 * (j 2).val = (j 2).val; omega

/-- The batch's labels are one block, the same at every step. -/
theorem emb8 (t : Fin cfg0.N) (j : S1024x1.Idx) : ((cfg0.win 8).blk t).view.emb j = j := by
  obtain ⟨e0, e1⟩ := at8 t
  funext a; apply Fin.ext
  match a with
  | ⟨0, _⟩ => show win0_8.index t (0 : Fin 2) * 1024 + 1 * (j 0).val = (j 0).val; omega
  | ⟨1, _⟩ => show win0_8.index t (1 : Fin 2) * 1 + 1 * (j 1).val = (j 1).val; omega

/-! ## The results as functions of the arguments -/

/-- The similarity table. -/
def sims : FVec Ideal S1024x101376 .f32 := fun i => sim (rowOf (codes m c)) pos (rowOf (bank m c)) (i 0) (i 1)
/-- The chunks' maxima. -/
def chunks : FVec Ideal S99x1024x32 .f32 := fun i => chunk (rowOf (codes m c)) pos (rowOf (bank m c)) (i 0) (i 1) (i 2)
/-- The labels of the bank's rows and of the batch's. -/
def labels : FVec Ideal S99x1024x1 .f32 := fun i => blockLabel (rowOf (codes m c)) (rowOf (bank m c)) (rowOf (cents m c)) (i 0) (i 1)
/-- The labels of what the bank holds at the batch's places. -/
def owns : FVec Ideal S1024x1 .f32 := fun i => ownLabel (rowOf (codes m c)) pos (rowOf (cents m c)) (i 0)

/-! ## One point's block of each -/

include hpos in
/-- The column of indices, at each step, holds the positions as words. -/
theorem column_word (t : Fin cfg0.N) (i : Fin 1024) : (iblk m c 3 t : IVec S1024x1 32) (ix2 i 0) = BitVec.ofNat 32 (pos i).val :=
  (block_column m c t i).trans (word_of (idx m c) pos hpos i)

include hpos in
/-- The row of indices, at each step, holds the positions as words. -/
theorem row_word (t : Fin cfg0.N) (i : Fin 1024) : (iblk m c 4 t : IVec S1x1x1024 32) (ix3 0 0 i) = BitVec.ofNat 32 (pos i).val :=
  (block_row m c t i).trans (word_of (idx m c) pos hpos i)

include hpos in
/-- A similarity of a bank step is the one stated for the whole array. -/
theorem bankSims_point (t : Fin cfg0.N) (ht : t.val < 98) (i j : Fin 1024) :
    bankSims (F := Ideal) (BitVec.ofNat 32 (grid0.coords t 0).val) (iblk m c 0 t) (iblk m c 1 t) (iblk m c 3 t) (ix2 i j)
      = sim (rowOf (codes m c)) pos (rowOf (bank m c)) i ⟨(num t).val * 1024 + j.val, by omega⟩ := by
  rw [coord]
  refine (bankSims_at ⟨t.val, ht⟩ _ _ _ pos (column_word m c pos hpos t) i j).trans ?_
  have hc : t.val * 1024 + j.val < 100352 := by omega
  rw [block_codes, block_bank m c t ht]
  unfold sim
  rw [dif_pos hc]
  by_cases h : t.val * 1024 + j.val < 100000
  · rw [dif_pos h, dif_pos h]
    unfold simBank
    have he : ((∃ k, (pos k).val = t.val * 1024 + j.val) ∨ 100000 ≤ t.val * 1024 + j.val) ↔ ∃ k, pos k = ⟨t.val * 1024 + j.val, h⟩ := by
      rw [or_iff_left (by omega)]
      exact exists_congr fun k => by rw [Fin.ext_iff]
    by_cases hk : ∃ k, pos k = ⟨t.val * 1024 + j.val, h⟩
    · rw [if_pos hk, if_pos (he.2 hk)]
    · rw [if_neg hk, if_neg (mt he.1 hk)]
  · rw [if_pos (.inr (by show 100000 ≤ t.val * 1024 + j.val; omega))]
    split
    · next h' => exact absurd h' h
    · rfl

include hpos in
/-- A similarity of the last step is the one stated for the whole array. -/
theorem ownSims_point (t : Fin cfg0.N) (ht : t.val = 98) (i j : Fin 1024) :
    ownSims (F := Ideal) (iblk m c 0 t) (iblk m c 3 t) (iblk m c 4 t) (ix2 i j)
      = sim (rowOf (codes m c)) pos (rowOf (bank m c)) i ⟨(num t).val * 1024 + j.val, by omega⟩ := by
  rw [ownSims_at _ _ _ pos (column_word m c pos hpos t) (row_word m c pos hpos t), block_codes]
  unfold sim
  rw [dif_neg (show ¬ t.val * 1024 + j.val < 100352 by omega)]
  exact congrArg (simOwn (rowOf (codes m c)) pos i) (Fin.ext (show j.val = t.val * 1024 + j.val - 100352 by omega))

/-- A bank step is not the last one. -/
theorem mod98 {t : Fin cfg0.N} : t.val < 98 → ¬ t.val % 99 = 98 := fun h => by rw [Nat.mod_eq_of_lt (by omega)]; omega

/-- A step that is no bank step is the last one. -/
theorem eq98 {t : Fin cfg0.N} (h : ¬ t.val < 98) : t.val = 98 := by have : t.val < 99 := (num t).isLt; omega

include hpos in
/-- What each step leaves of the similarities is its block of the stated array. -/
theorem flushed5_eq (t : Fin cfg0.N) : (dats m 0 c).flushed 5 t = ((cfg0.win 5).blk t).view.read (Elt Ideal) (sims m c pos) := by
  by_cases h : t.val < 98
  · rw [flushed5_A m c t h (mod98 h), out_A_5]
    funext j
    show bankSims (F := Ideal) (BitVec.ofNat 32 (grid0.coords t 0).val) (iblk m c 0 t) (iblk m c 1 t) (iblk m c 3 t) j = sims m c pos (((cfg0.win 5).blk t).view.emb j)
    rw [emb5]
    obtain ⟨i, r, rfl⟩ : ∃ i r : Fin 1024, j = ix2 i r := ⟨j 0, j 1, eq_ix2 j⟩
    exact bankSims_point m c pos hpos t h i r
  · have e := eq98 h
    rw [flushed5_B m c t h (by omega), out_B_5]
    funext j
    show ownSims (F := Ideal) (iblk m c 0 t) (iblk m c 3 t) (iblk m c 4 t) j = sims m c pos (((cfg0.win 5).blk t).view.emb j)
    rw [emb5]
    obtain ⟨i, r, rfl⟩ : ∃ i r : Fin 1024, j = ix2 i r := ⟨j 0, j 1, eq_ix2 j⟩
    exact ownSims_point m c pos hpos t e i r

/-- The maxima of a block whose entries are the table's are the chunks'. -/
theorem blockMax_point (v : FVec Ideal S1024x1024 .f32) (t : Fin cfg0.N)
    (h : ∀ i j : Fin 1024, v (ix2 i j) = sim (rowOf (codes m c)) pos (rowOf (bank m c)) i ⟨(num t).val * 1024 + j.val, by omega⟩)
    (j : S1x1024x32.Idx) : blockMax v j = chunks m c pos (((cfg0.win 6).blk t).view.emb j) := by
  rw [emb6]
  obtain ⟨a, i, k, rfl⟩ : ∃ (a : Fin 1) (i : Fin 1024) (k : Fin 32), j = ix3 a i k := ⟨j 0, j 1, j 2, eq_ix3 j⟩
  obtain rfl : a = 0 := Subsingleton.elim _ _
  rw [blockMax_at]
  show _ = chunk (rowOf (codes m c)) pos (rowOf (bank m c)) (num t) i k
  unfold chunk
  refine congrArg (fun f : Fin 32 → EReal => Finset.fold max ⊥ f Finset.univ) (funext fun x => ?_)
  rw [h]
  exact congrArg (sim _ _ _ i) (Fin.ext (show t.val * 1024 + (k.val * 32 + x.val) = t.val * 1024 + k.val * 32 + x.val by omega))

include hpos in
/-- What each step leaves of the chunk maxima is its block of the stated array. -/
theorem flushed6_eq (t : Fin cfg0.N) : (dats m 0 c).flushed 6 t = ((cfg0.win 6).blk t).view.read (Elt Ideal) (chunks m c pos) := by
  by_cases h : t.val < 98
  · rw [flushed6_A m c t h (mod98 h), out_A_6]
    exact funext fun j => blockMax_point m c pos _ t (bankSims_point m c pos hpos t h) j
  · have e := eq98 h
    rw [flushed6_B m c t h (by omega), out_B_6]
    exact funext fun j => blockMax_point m c pos _ t (ownSims_point m c pos hpos t e) j

/-- What each step leaves of the labels is its block of the stated array. -/
theorem flushed7_eq (t : Fin cfg0.N) : (dats m 0 c).flushed 7 t = ((cfg0.win 7).blk t).view.read (Elt Ideal) (labels m c) := by
  by_cases h : t.val < 98
  · rw [flushed7_A m c t h (mod98 h), out_A_7]
    funext j
    show k0_pay11 (F := Ideal) (k0_pay10 (k0_pay3 (iblk m c 2 t)) (iblk m c 1 t)) j = labels m c (((cfg0.win 7).blk t).view.emb j)
    rw [emb7]
    obtain ⟨a, i, b, rfl⟩ : ∃ (a : Fin 1) (i : Fin 1024) (b : Fin 1), j = ix3 a i b := ⟨j 0, j 1, j 2, eq_ix3 j⟩
    obtain rfl : a = 0 := Subsingleton.elim _ _
    obtain rfl : b = 0 := Subsingleton.elim _ _
    rw [bankLabel_at (rowOf (cents m c)) _ (block_cents m c t), block_bank m c t h]
    have hc : t.val * 1024 + i.val < 100352 := by omega
    show _ = number (label (rowOf (cents m c)) (bankRow (rowOf (codes m c)) (rowOf (bank m c)) ⟨t.val * 1024 + i.val, _⟩))
    unfold bankRow
    rw [dif_pos hc]
  · have e := eq98 h
    rw [flushed7_B m c t h (by omega), out_B_7]
    funext j
    show k0_pay45 (F := Ideal) (k0_pay44 (k0_pay1 (iblk m c 0 t)) (k0_pay3 (iblk m c 2 t))) j = labels m c (((cfg0.win 7).blk t).view.emb j)
    rw [emb7]
    obtain ⟨a, i, b, rfl⟩ : ∃ (a : Fin 1) (i : Fin 1024) (b : Fin 1), j = ix3 a i b := ⟨j 0, j 1, j 2, eq_ix3 j⟩
    obtain rfl : a = 0 := Subsingleton.elim _ _
    obtain rfl : b = 0 := Subsingleton.elim _ _
    rw [lastLabel_at (rowOf (cents m c)) _ (block_cents m c t), block_codes]
    show _ = number (label (rowOf (cents m c)) (bankRow (rowOf (codes m c)) (rowOf (bank m c)) ⟨t.val * 1024 + i.val, _⟩))
    unfold bankRow
    rw [dif_neg (show ¬ t.val * 1024 + i.val < 100352 by omega)]
    exact congrArg (fun r => number (label (rowOf (cents m c)) (unit (rowOf (codes m c) r)))) (Fin.ext (show i.val = t.val * 1024 + i.val - 100352 by omega))

/-- Only the last point writes the fourth result back. -/
theorem flush8 : ∀ t : Fin cfg0.N, (cfg0.win 8).flush t = true ↔ t.val = 98 := (by decide +kernel : ∀ t : Fin grid0.N, _)

include hpos in
/-- What is written back of the batch's labels is the stated array. -/
theorem flushed8_eq (t : Fin cfg0.N) (hf : (cfg0.win 8).flush t = true) :
    (dats m 0 c).flushed 8 t = ((cfg0.win 8).blk t).view.read (Elt Ideal) (owns m c pos) := by
  have e := (flush8 t).1 hf
  rw [flushed8_B m c t (by omega) (by omega), out_B_8]
  funext j
  show k0_pay7 (F := Ideal) (k0_pay76 cols (k0_pay41 (F := Ideal) (k0_pay4 (F := Ideal) (iblk m c 3 t)) (iblk m c 4 t)))
    (k0_pay77 (k0_pay3 (iblk m c 2 t)) (k0_pay40 (k0_pay1 (iblk m c 0 t)))) (k0_pay78 cols) j = owns m c pos (((cfg0.win 8).blk t).view.emb j)
  rw [emb8]
  obtain ⟨i, b, rfl⟩ : ∃ (i : Fin 1024) (b : Fin 1), j = ix2 i b := ⟨j 0, j 1, eq_ix2 j⟩
  obtain rfl : b = 0 := Subsingleton.elim _ _
  rw [ownLabel_at (rowOf (cents m c)) _ _ (block_cents m c t) _ _ pos (column_word m c pos hpos t) (row_word m c pos hpos t), block_codes]
  rfl

/-! ## The whole arrays -/

theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)

/-- A block's number as a grid point. -/
abbrev point (n : Fin 99) : Fin cfg0.N := ⟨n.val, n.isLt.trans_eq points.symm⟩

/-- Every entry of the similarities lies in the block of some step. -/
theorem covered5 (i : S1024x101376.Idx) : ∃ t : Fin cfg0.N, (cfg0.win 5).flush t = true ∧ i ∈ ((cfg0.win 5).blk t).view.set := by
  obtain ⟨a, b, rfl⟩ : ∃ (a : Fin 1024) (b : Fin 101376), i = ix2 a b := ⟨i 0, i 1, eq_ix2 i⟩
  obtain ⟨n, r, hb⟩ : ∃ (n : Fin 99) (r : Fin 1024), b.val = n.val * 1024 + r.val :=
    ⟨⟨b.val / 1024, by omega⟩, ⟨b.val % 1024, by omega⟩, by show b.val = b.val / 1024 * 1024 + b.val % 1024; omega⟩
  refine ⟨point n, flush5 _, ?_⟩
  have h := ((cfg0.win 5).blk (point n)).view.emb_mem_set (ix2 a r : S1024x1024.Idx)
  rw [emb5] at h
  have e : b = ⟨(num (point n)).val * 1024 + r.val, by omega⟩ := Fin.ext hb
  rw [e]
  exact h

/-- Every entry of the chunk maxima lies in the block of some step. -/
theorem covered6 (i : S99x1024x32.Idx) : ∃ t : Fin cfg0.N, (cfg0.win 6).flush t = true ∧ i ∈ ((cfg0.win 6).blk t).view.set := by
  refine ⟨point (i 0), flush6 _, ?_⟩
  have h := ((cfg0.win 6).blk (point (i 0))).view.emb_mem_set (ix3 (0 : Fin 1) (i 1) (i 2) : S1x1024x32.Idx)
  rw [emb6] at h
  exact (eq_ix3 i).symm ▸ h

/-- Every label lies in the block of some step. -/
theorem covered7 (i : S99x1024x1.Idx) : ∃ t : Fin cfg0.N, (cfg0.win 7).flush t = true ∧ i ∈ ((cfg0.win 7).blk t).view.set := by
  refine ⟨point (i 0), flush7 _, ?_⟩
  have h := ((cfg0.win 7).blk (point (i 0))).view.emb_mem_set (ix3 (0 : Fin 1) (i 1) (i 2) : S1x1024x1.Idx)
  rw [emb7] at h
  exact (eq_ix3 i).symm ▸ h

/-- Every label of the batch lies in the block that is written back. -/
theorem covered8 (i : S1024x1.Idx) : ∃ t : Fin cfg0.N, (cfg0.win 8).flush t = true ∧ i ∈ ((cfg0.win 8).blk t).view.set := by
  refine ⟨point 98, (flush8 _).2 rfl, ?_⟩
  have h := ((cfg0.win 8).blk (point 98)).view.emb_mem_set i
  rwa [emb8] at h

include hpos in
/-- After the grid the first result holds the stated similarities. -/
theorem final5 : (dats m 0 c).arrAt 5 cfg0.N = sims m c pos :=
  (dats m 0 c).arrAt_eq_of_cover 5 (sims m c pos) (fun t _ => flushed5_eq m c pos hpos t) covered5

include hpos in
/-- After the grid the second result holds the stated chunk maxima. -/
theorem final6 : (dats m 0 c).arrAt 6 cfg0.N = chunks m c pos :=
  (dats m 0 c).arrAt_eq_of_cover 6 (chunks m c pos) (fun t _ => flushed6_eq m c pos hpos t) covered6

/-- After the grid the third result holds the stated labels. -/
theorem final7 : (dats m 0 c).arrAt 7 cfg0.N = labels m c :=
  (dats m 0 c).arrAt_eq_of_cover 7 (labels m c) (fun t _ => flushed7_eq m c t) covered7

include hpos in
/-- After the grid the fourth result holds the stated labels of the batch. -/
theorem final8 : (dats m 0 c).arrAt 8 cfg0.N = owns m c pos :=
  (dats m 0 c).arrAt_eq_of_cover 8 (owns m c pos) (fun t hf => flushed8_eq m c pos hpos t hf) covered8

end Cert.KernelArr

end
-- ==== Proof.RefRun.lean ====
/- The reference's run: every execution of it ends with its four results at the terms of `RefTerm` and with its
   arguments unchanged. The program is the list of its operations in order, and the list is run from the launch
   memory. -/
module

public import proofs.«01_k».proof.Proof.RefTerm
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Two arrays side by side: what `main_v64` is of its two operands. Under a name the operands are plain arguments. -/
def fn_main_v64 : (⟨S1024x100352, .f32⟩ : BufTy).Contents (Elt F) → (⟨S1024x1024, .f32⟩ : BufTy).Contents (Elt F) → (⟨S1024x101376, .f32⟩ : BufTy).Contents (Elt F) :=
  (fun a b => concatenate S1024x101376 1 [⟨S1024x100352, a⟩, ⟨S1024x1024, b⟩] concatenates_S1024x100352_S1024x1024_S1024x101376_d1)

/-- Two arrays side by side: what `main_v69` is of its two operands. Under a name the operands are plain arguments. -/
def fn_main_v69 : (⟨S100352x128, .f32⟩ : BufTy).Contents (Elt F) → (⟨S1024x128, .f32⟩ : BufTy).Contents (Elt F) → (⟨S101376x128, .f32⟩ : BufTy).Contents (Elt F) :=
  (fun a b => concatenate S101376x128 0 [⟨S100352x128, a⟩, ⟨S1024x128, b⟩] concatenates_S100352x128_S1024x128_S101376x128_d0)

/-- The reference's 157 operations, in order (a called function's operations stand in its call's place, spelt `TRef.…`). -/
abbrev ops : List (HloOp τ sig (Elt F)) :=
  [ TRef.binary (TRef.of (T := ⟨S1024x128, .f32⟩) main_arg0) (TRef.of (T := ⟨S1024x128, .f32⟩) main_arg0) (TRef.of (T := ⟨S1024x128, .f32⟩) main_call0_v0) mulf,
    TRef.nullary (TRef.of (T := ⟨S_, .f32⟩) main_call0_cst) (constant S_ .f32 0x00000000#32),
    TRef.binary (TRef.of (T := ⟨S1024x128, .f32⟩) main_call0_v0) (TRef.of (T := ⟨S_, .f32⟩) main_call0_cst) (TRef.of (T := ⟨S1024, .f32⟩) main_call0_v1) (fun x v => Host.reduceAdd x v reducesTo_S1024x128_S1024_d1 h_S_),
    TRef.unary (TRef.of (T := ⟨S1024, .f32⟩) main_call0_v1) (TRef.of (T := ⟨S1024x1, .f32⟩) main_call0_v2) (broadcastInDim S1024x1 ![0] bcast_S1024_S1024x1_0),
    TRef.unary (TRef.of (T := ⟨S1024x1, .f32⟩) main_call0_v2) (TRef.of (T := ⟨S1024x1, .f32⟩) main_v0) Host.sqrt,
    nullary main_cst (constant S_ .f32 0x2B8CBCCC#32),
    unary main_cst main_v1 (broadcastInDim S1024x1 ![] bcast_S_S1024x1 : (⟨S_, .f32⟩ : BufTy).Contents (Elt F) → (⟨S1024x1, .f32⟩ : BufTy).Contents (Elt F)),
    binary main_v0 main_v1 main_v2 (maximumf : (⟨S1024x1, .f32⟩ : BufTy).Contents (Elt F) → (⟨S1024x1, .f32⟩ : BufTy).Contents (Elt F) → (⟨S1024x1, .f32⟩ : BufTy).Contents (Elt F)),
    unary main_v2 main_v3 (broadcastInDim S1024x128 ![0, 1] bcast_S1024x1_S1024x128_0_1 : (⟨S1024x1, .f32⟩ : BufTy).Contents (Elt F) → (⟨S1024x128, .f32⟩ : BufTy).Contents (Elt F)),
    binary main_arg0 main_v3 main_v4 (Host.divf : (⟨S1024x128, .f32⟩ : BufTy).Contents (Elt F) → (⟨S1024x128, .f32⟩ : BufTy).Contents (Elt F) → (⟨S1024x128, .f32⟩ : BufTy).Contents (Elt F)),
    nullary main_c (constantI S_ 32 0#32),
    unary main_c main_v5 (broadcastInDim S1024 ![] bcast_S_S1024 : (⟨S_, .i32⟩ : BufTy).Contents (Elt F) → (⟨S1024, .i32⟩ : BufTy).Contents (Elt F)),
    binary main_arg1 main_v5 main_v6 (cmpi .slt : (⟨S1024, .i32⟩ : BufTy).Contents (Elt F) → (⟨S1024, .i32⟩ : BufTy).Contents (Elt F) → (⟨S1024, .i1⟩ : BufTy).Contents (Elt F)),
    nullary main_c_0 (constantI S_ 32 100000#32),
    unary main_c_0 main_v7 (broadcastInDim S1024 ![] bcast_S_S1024 : (⟨S_, .i32⟩ : BufTy).Contents (Elt F) → (⟨S1024, .i32⟩ : BufTy).Contents (Elt F)),
    binary main_arg1 main_v7 main_v8 (addi : (⟨S1024, .i32⟩ : BufTy).Contents (Elt F) → (⟨S1024, .i32⟩ : BufTy).Contents (Elt F) → (⟨S1024, .i32⟩ : BufTy).Contents (Elt F)),
    ternary main_v6 main_v8 main_arg1 main_v9 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v9 main_v10 (broadcastInDim S1024x1 ![0] bcast_S1024_S1024x1_0 : (⟨S1024, .i32⟩ : BufTy).Contents (Elt F) → (⟨S1024x1, .i32⟩ : BufTy).Contents (Elt F)),
    ternary main_arg2 main_v10 main_v4 main_v11 ((fun x i u => Host.scatter scatter_S100000x128_S1024x1_S1024x128_1_0_0_1 (fun _ b => b) x i u) : (⟨S100000x128, .f32⟩ : BufTy).Contents (Elt F) → (⟨S1024x1, .i32⟩ : BufTy).Contents (Elt F) → (⟨S1024x128, .f32⟩ : BufTy).Contents (Elt F) → (⟨S100000x128, .f32⟩ : BufTy).Contents (Elt F)),
    TRef.binary (TRef.of (T := ⟨S100000x128, .f32⟩) main_v11) (TRef.of (T := ⟨S100000x128, .f32⟩) main_v11) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v12) Host.sqrt,
    nullary main_cst_1 (constant S_ .f32 0x2B8CBCCC#32),
    unary main_cst_1 main_v13 (broadcastInDim S100000x1 ![] bcast_S_S100000x1 : (⟨S_, .f32⟩ : BufTy).Contents (Elt F) → (⟨S100000x1, .f32⟩ : BufTy).Contents (Elt F)),
    binary main_v12 main_v13 main_v14 (maximumf : (⟨S100000x1, .f32⟩ : BufTy).Contents (Elt F) → (⟨S100000x1, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_v11 main_v15 main_v16 (Host.divf : (⟨S100000x128, .f32⟩ : BufTy).Contents (Elt F) → (⟨S100000x128, .f32⟩ : BufTy).Contents (Elt F) → (⟨S100000x128, .f32⟩ : BufTy).Contents (Elt F)),
    unary main_v16 main_v17 ((transpose S128x100000 [1, 0] · transposes_S100000x128_S128x100000_1_0) : (⟨S100000x128, .f32⟩ : BufTy).Contents (Elt F) → (⟨S128x100000, .f32⟩ : BufTy).Contents (Elt F)),
    binary main_v4 main_v17 main_v18 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    TRef.binary (TRef.of (T := ⟨S100x128, .f32⟩) main_arg3) (TRef.of (T := ⟨S100x128, .f32⟩) main_arg3) (TRef.of (T := ⟨S100x128, .f32⟩) main_call2_v0) mulf,
    TRef.nullary (TRef.of (T := ⟨S_, .f32⟩) main_call2_cst) (constant S_ .f32 0x00000000#32),
    TRef.binary (TRef.of (T := ⟨S100x128, .f32⟩) main_call2_v0) (TRef.of (T := ⟨S_, .f32⟩) main_call2_cst) (TRef.of (T := ⟨S100, .f32⟩) main_call2_v1) (fun x v => Host.reduceAdd x v reducesTo_S100x128_S100_d1 h_S_),
    TRef.unary (TRef.of (T := ⟨S100, .f32⟩) main_call2_v1) (TRef.of (T := ⟨S100x1, .f32⟩) main_call2_v2) (broadcastInDim S100x1 ![0] bcast_S100_S100x1_0),
    TRef.unary (TRef.of (T := ⟨S100x1, .f32⟩) main_call2_v2) (TRef.of (T := ⟨S100x1, .f32⟩) main_v19) Host.sqrt,
    nullary main_cst_2 (constant S_ .f32 0x2B8CBCCC#32),
    unary main_cst_2 main_v20 (broadcastInDim S100x1 ![] bcast_S_S100x1 : (⟨S_, .f32⟩ : BufTy).Contents (Elt F) → (⟨S100x1, .f32⟩ : BufTy).Contents (Elt F)),
    binary main_v19 main_v20 main_v21 (maximumf : (⟨S100x1, .f32⟩ : BufTy).Contents (Elt F) → (⟨S100x1, .f32⟩ : BufTy).Contents (Elt F) → (⟨S100x1, .f32⟩ : BufTy).Contents (Elt F)),
    unary main_v21 main_v22 (broadcastInDim S100x128 ![0, 1] bcast_S100x1_S100x128_0_1 : (⟨S100x1, .f32⟩ : BufTy).Contents (Elt F) → (⟨S100x128, .f32⟩ : BufTy).Contents (Elt F)),
    binary main_arg3 main_v22 main_v23 (Host.divf : (⟨S100x128, .f32⟩ : BufTy).Contents (Elt F) → (⟨S100x128, .f32⟩ : BufTy).Contents (Elt F) → (⟨S100x128, .f32⟩ : BufTy).Contents (Elt F)),
    TRef.binary (TRef.of (T := ⟨S100000x128, .f32⟩) main_v11) (TRef.of (T := ⟨S100000x128, .f32⟩) main_v11) (TRef.of (T := ⟨S100000x128, .f32⟩) main_call3_v0) mulf,
    TRef.nullary (TRef.of (T := ⟨S_, .f32⟩) main_call3_cst) (constant S_ .f32 0x00000000#32),
    TRef.binary (TRef.of (T := ⟨S100000x128, .f32⟩) main_call3_v0) (TRef.of (T := ⟨S_, .f32⟩) main_call3_cst) (TRef.of (T := ⟨S100000, .f32⟩) main_call3_v1) (fun x v => Host.reduceAdd x v reducesTo_S100000x128_S100000_d1 h_S_),
    TRef.unary (TRef.of (T := ⟨S100000, .f32⟩) main_call3_v1) (TRef.of (T := ⟨S100000x1, .f32⟩) main_call3_v2) (broadcastInDim S100000x1 ![0] bcast_S100000_S100000x1_0),
    TRef.unary (TRef.of (T := ⟨S100000x1, .f32⟩) main_call3_v2) (TRef.of (T := ⟨S100000x1, .f32⟩) main_v24) Host.sqrt,
    nullary main_cst_3 (constant S_ .f32 0x2B8CBCCC#32),
    unary main_cst_3 main_v25 (broadcastInDim S100000x1 ![] bcast_S_S100000x1 : (⟨S_, .f32⟩ : BufTy).Contents (Elt F) → (⟨S100000x1, .f32⟩ : BufTy).Contents (Elt F)),
    binary main_v24 main_v25 main_v26 (maximumf : (⟨S100000x1, .f32⟩ : BufTy).Contents (Elt F) → (⟨S100000x1, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v11 main_v27 main_v28 (Host.divf : (⟨S100000x128, .f32⟩ : BufTy).Contents (Elt F) → (⟨S100000x128, .f32⟩ : BufTy).Contents (Elt F) → (⟨S100000x128, .f32⟩ : BufTy).Contents (Elt F)),
    unary main_v23 main_v29 ((transpose S128x100 [1, 0] · transposes_S100x128_S128x100_1_0) : (⟨S100x128, .f32⟩ : BufTy).Contents (Elt F) → (⟨S128x100, .f32⟩ : BufTy).Contents (Elt F)),
    binary main_v28 main_v29 main_v30 ((fun l r => Host.dotGeneral dot_S100000x128_S128x100_S100000x100_1_0_0_1_n_n none l r) : (⟨S100000x128, .f32⟩ : BufTy).Contents (Elt F) → (⟨S128x100, .f32⟩ : BufTy).Contents (Elt F) → (⟨S100000x100, .f32⟩ : BufTy).Contents (Elt F)),
    TRef.nullary (TRef.of (T := ⟨S100000x100, .i32⟩) main_call4_v0) (iotaInDim S100000x100 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S100000x100, .f32⟩) main_v30) (TRef.of (T := ⟨S100000x100, .i32⟩) main_call4_v0) (TRef.of (T := ⟨S_, .f32⟩) main_call4_cst) (TRef.of (T := ⟨S_, .i32⟩) main_call4_c) (TRef.of (T := ⟨S100000, .f32⟩) main_call4_v1_0) (fun x y u v j => (Host.argReduce reducer_argmax_f32_i32 x y u v reducesTo_S100000x100_S100000_d1 h_S_ j).1),
    TRef.quaternary (TRef.of (T := ⟨S100000x100, .f32⟩) main_v30) (TRef.of (T := ⟨S100000x100, .i32⟩) main_call4_v0) (TRef.of (T := ⟨S_, .f32⟩) main_call4_cst) (TRef.of (T := ⟨S_, .i32⟩) main_call4_c) (TRef.of (T := ⟨S100000, .i32⟩) main_v31) (fun x y u v j => (Host.argReduce reducer_argmax_f32_i32 x y u v reducesTo_S100000x100_S100000_d1 h_S_ j).2),
    nullary main_c_4 (constantI S_ 32 4294967295#32),
    unary main_c_4 main_v32 (broadcastInDim S100000 ![] bcast_S_S100000 : (⟨S_, .i32⟩ : BufTy).Contents (Elt F) → (⟨S100000, .i32⟩ : BufTy).Contents (Elt F)),
    nullary main_v33 (iotaInDim S1024 32 0),
    nullary main_c_5 (constantI S_ 32 0#32),
    unary main_c_5 main_v34 (broadcastInDim S1024 ![] bcast_S_S1024 : (⟨S_, .i32⟩ : BufTy).Contents (Elt F) → (⟨S1024, .i32⟩ : BufTy).Contents (Elt F)),
    binary main_arg1 main_v34 main_v35 (cmpi .slt : (⟨S1024, .i32⟩ : BufTy).Contents (Elt F) → (⟨S1024, .i32⟩ : BufTy).Contents (Elt F) → (⟨S1024, .i1⟩ : BufTy).Contents (Elt F)),
    nullary main_c_6 (constantI S_ 32 100000#32),
    unary main_c_6 main_v36 (broadcastInDim S1024 ![] bcast_S_S1024 : (⟨S_, .i32⟩ : BufTy).Contents (Elt F) → (⟨S1024, .i32⟩ : BufTy).Contents (Elt F)),
    binary main_arg1 main_v36 main_v37 (addi : (⟨S1024, .i32⟩ : BufTy).Contents (Elt F) → (⟨S1024, .i32⟩ : BufTy).Contents (Elt F) → (⟨S1024, .i32⟩ : BufTy).Contents (Elt F)),
    ternary main_v35 main_v37 main_arg1 main_v38 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v38 main_v39 (broadcastInDim S1024x1 ![0] bcast_S1024_S1024x1_0 : (⟨S1024, .i32⟩ : BufTy).Contents (Elt F) → (⟨S1024x1, .i32⟩ : BufTy).Contents (Elt F)),
    ternary main_v32 main_v39 main_v33 main_v40 ((fun x i u => Host.scatter scatter_S100000_S1024x1_S1024_n_0_0_1 (fun _ b => b) x i u) : (⟨S100000, .i32⟩ : BufTy).Contents (Elt F) → (⟨S1024x1, .i32⟩ : BufTy).Contents (Elt F) → (⟨S1024, .i32⟩ : BufTy).Contents (Elt F) → (⟨S100000, .i32⟩ : BufTy).Contents (Elt F)),
    nullary main_c_7 (constantI S_ 32 0#32),
    unary main_c_7 main_v41 (broadcastInDim S100000 ![] bcast_S_S100000 : (⟨S_, .i32⟩ : BufTy).Contents (Elt F) → (⟨S100000, .i32⟩ : BufTy).Contents (Elt F)),
    binary main_v40 main_v41 main_v42 (cmpi .sge : (⟨S100000, .i32⟩ : BufTy).Contents (Elt F) → (⟨S100000, .i32⟩ : BufTy).Contents (Elt F) → (⟨S100000, .i1⟩ : BufTy).Contents (Elt F)),
    unary main_v42 main_v43 (broadcastInDim S1x100000 ![1] bcast_S100000_S1x100000_1 : (⟨S100000, .i1⟩ : BufTy).Contents (Elt F) → (⟨S1x100000, .i1⟩ : BufTy).Contents (Elt F)),
    nullary main_cst_8 (constant S_ .f32 0xFF800000#32),
    TRef.unary (TRef.of (T := ⟨S_, .f32⟩) main_cst_8) (TRef.of (T := ⟨S_, .f32⟩) main_call5_v0) id,
    TRef.unary (TRef.of (T := ⟨S1x100000, .i1⟩) main_v43) (TRef.of (T := ⟨S1024x100000, .i1⟩) main_call5_v1) (broadcastInDim S1024x100000 ![0, 1] bcast_S1x100000_S1024x100000_0_1),
    TRef.unary (TRef.of (T := ⟨S_, .f32⟩) main_call5_v0) (TRef.of (T := ⟨S1024x100000, .f32⟩) main_call5_v2) (broadcastInDim S1024x100000 ![] bcast_S_S1024x100000),
    TRef.ternary (TRef.of (T := ⟨S1024x100000, .i1⟩) main_call5_v1) (TRef.of (T := ⟨S1024x100000, .f32⟩) main_call5_v2) (TRef.of (T := ⟨S1024x100000, .f32⟩) main_v18) (TRef.of (T := ⟨S1024x100000, .f32⟩) main_v44) select,
    nullary main_c_9 (constantI S_ 32 0#32),
    unary main_c_9 main_v45 (broadcastInDim S1024 ![] bcast_S_S1024 : (⟨S_, .i32⟩ : BufTy).Contents (Elt F) → (⟨S1024, .i32⟩ : BufTy).Contents (Elt F)),
    binary main_arg1 main_v45 main_v46 (cmpi .slt : (⟨S1024, .i32⟩ : BufTy).Contents (Elt F) → (⟨S1024, .i32⟩ : BufTy).Contents (Elt F) → (⟨S1024, .i1⟩ : BufTy).Contents (Elt F)),
    nullary main_c_10 (constantI S_ 32 100000#32),
    unary main_c_10 main_v47 (broadcastInDim S1024 ![] bcast_S_S1024 : (⟨S_, .i32⟩ : BufTy).Contents (Elt F) → (⟨S1024, .i32⟩ : BufTy).Contents (Elt F)),
    binary main_arg1 main_v47 main_v48 (addi : (⟨S1024, .i32⟩ : BufTy).Contents (Elt F) → (⟨S1024, .i32⟩ : BufTy).Contents (Elt F) → (⟨S1024, .i32⟩ : BufTy).Contents (Elt F)),
    ternary main_v46 main_v48 main_arg1 main_v49 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v49 main_v50 (broadcastInDim S1024x1 ![0] bcast_S1024_S1024x1_0 : (⟨S1024, .i32⟩ : BufTy).Contents (Elt F) → (⟨S1024x1, .i32⟩ : BufTy).Contents (Elt F)),
    binary main_v40 main_v50 main_v51 ((fun x i => Host.gather gather_S100000_S1024x1_S1024_n_0_n_n_0_1_1 x i) : (⟨S100000, .i32⟩ : BufTy).Contents (Elt F) → (⟨S1024x1, .i32⟩ : BufTy).Contents (Elt F) → (⟨S1024, .i32⟩ : BufTy).Contents (Elt F)),
    nullary main_v52 (iotaInDim S1024 32 0),
    binary main_v51 main_v52 main_v53 (cmpi .eq : (⟨S1024, .i32⟩ : BufTy).Contents (Elt F) → (⟨S1024, .i32⟩ : BufTy).Contents (Elt F) → (⟨S1024, .i1⟩ : BufTy).Contents (Elt F)),
    unary main_v53 main_v54 (broadcastInDim S1x1024 ![1] bcast_S1024_S1x1024_1 : (⟨S1024, .i1⟩ : BufTy).Contents (Elt F) → (⟨S1x1024, .i1⟩ : BufTy).Contents (Elt F)),
    nullary main_c_11 (constantI S_ 32 0#32),
    unary main_c_11 main_v55 (broadcastInDim S1024 ![] bcast_S_S1024 : (⟨S_, .i32⟩ : BufTy).Contents (Elt F) → (⟨S1024, .i32⟩ : BufTy).Contents (Elt F)),
    binary main_arg1 main_v55 main_v56 (cmpi .slt : (⟨S1024, .i32⟩ : BufTy).Contents (Elt F) → (⟨S1024, .i32⟩ : BufTy).Contents (Elt F) → (⟨S1024, .i1⟩ : BufTy).Contents (Elt F)),
    nullary main_c_12 (constantI S_ 32 100000#32),
    unary main_c_12 main_v57 (broadcastInDim S1024 ![] bcast_S_S1024 : (⟨S_, .i32⟩ : BufTy).Contents (Elt F) → (⟨S1024, .i32⟩ : BufTy).Contents (Elt F)),
    binary main_arg1 main_v57 main_v58 (addi : (⟨S1024, .i32⟩ : BufTy).Contents (Elt F) → (⟨S1024, .i32⟩ : BufTy).Contents (Elt F) → (⟨S1024, .i32⟩ : BufTy).Contents (Elt F)),
    ternary main_v56 main_v58 main_arg1 main_v59 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v59 main_v60 (broadcastInDim S1024x1 ![0] bcast_S1024_S1024x1_0 : (⟨S1024, .i32⟩ : BufTy).Contents (Elt F) → (⟨S1024x1, .i32⟩ : BufTy).Contents (Elt F)),
    binary main_v18 main_v60 main_v61 ((fun x i => Host.gather gather_S1024x100000_S1024x1_S1024x1024_0_1_n_n_1_1_10241 x i) : (⟨S1024x100000, .f32⟩ : BufTy).Contents (Elt F) → (⟨S1024x1, .i32⟩ : BufTy).Contents (Elt F) → (⟨S1024x1024, .f32⟩ : BufTy).Contents (Elt F)),
    nullary main_cst_13 (constant S_ .f32 0xFF800000#32),
    TRef.unary (TRef.of (T := ⟨S_, .f32⟩) main_cst_13) (TRef.of (T := ⟨S_, .f32⟩) main_call6_v0) id,
    TRef.unary (TRef.of (T := ⟨S1x1024, .i1⟩) main_v54) (TRef.of (T := ⟨S1024x1024, .i1⟩) main_call6_v1) (broadcastInDim S1024x1024 ![0, 1] bcast_S1x1024_S1024x1024_0_1),
    TRef.unary (TRef.of (T := ⟨S_, .f32⟩) main_call6_v0) (TRef.of (T := ⟨S1024x1024, .f32⟩) main_call6_v2) (broadcastInDim S1024x1024 ![] bcast_S_S1024x1024),
    TRef.ternary (TRef.of (T := ⟨S1024x1024, .i1⟩) main_call6_v1) (TRef.of (T := ⟨S1024x1024, .f32⟩) main_v61) (TRef.of (T := ⟨S1024x1024, .f32⟩) main_call6_v2) (TRef.of (T := ⟨S1024x1024, .f32⟩) main_v62) select,
    nullary main_cst_14 (constant S_ .f32 0xFF800000#32),
    TRef.unary (TRef.of (T := ⟨S_, .f32⟩) main_cst_14) (TRef.of (T := ⟨S_, .f32⟩) main_call7_v0) id,
    TRef.binary (TRef.of (T := ⟨S1024x100000, .f32⟩) main_v44) (TRef.of (T := ⟨S_, .f32⟩) main_call7_v0) (TRef.of (T := ⟨S1024x100352, .f32⟩) main_v63) (fun x v => pad S1024x100352 ![0, 0] ![0, 352] ![0, 0] x v pads_S1024x100000_S1024x100352_000_03520 h_S_),
    binary main_v63 main_v62 main_v64 (fn_main_v64 (F := F)),
    reshape main_v64 main_v65 (rfl : (.f32 : EltTy) = .f32) shapeCasts_S1024x101376_S1024x99x32x32,
    nullary main_cst_15 (constant S_ .f32 0xFF800000#32),
    binary main_v65 main_cst_15 main_v66 ((fun x v => Host.reduce FloatOps.maximumf x v reducesTo_S1024x99x32x32_S1024x99x32_d3 h_S_) : (⟨S1024x99x32x32, .f32⟩ : BufTy).Contents (Elt F) → (⟨S_, .f32⟩ : BufTy).Contents (Elt F) → (⟨S1024x99x32, .f32⟩ : BufTy).Contents (Elt F)),
    unary main_v66 main_v67 ((transpose S99x1024x32 [1, 0, 2] · transposes_S1024x99x32_S99x1024x32_1_0_2) : (⟨S1024x99x32, .f32⟩ : BufTy).Contents (Elt F) → (⟨S99x1024x32, .f32⟩ : BufTy).Contents (Elt F)),
    nullary main_c_16 (constantI S_ 32 0#32),
    TRef.unary (TRef.of (T := ⟨S_, .i32⟩) main_c_16) (TRef.of (T := ⟨S_, .f32⟩) main_call8_v0) (sitofp .f32),
    TRef.binary (TRef.of (T := ⟨S100000x128, .f32⟩) main_arg2) (TRef.of (T := ⟨S_, .f32⟩) main_call8_v0) (TRef.of (T := ⟨S100352x128, .f32⟩) main_v68) (fun x v => pad S100352x128 ![0, 0] ![352, 0] ![0, 0] x v pads_S100000x128_S100352x128_03520_000 h_S_),
    binary main_v68 main_v4 main_v69 (fn_main_v69 (F := F)),
    TRef.binary (TRef.of (T := ⟨S100x128, .f32⟩) main_arg3) (TRef.of (T := ⟨S100x128, .f32⟩) main_arg3) (TRef.of (T := ⟨S100x128, .f32⟩) main_call9_v0) mulf,
    TRef.nullary (TRef.of (T := ⟨S_, .f32⟩) main_call9_cst) (constant S_ .f32 0x00000000#32),
    TRef.binary (TRef.of (T := ⟨S100x128, .f32⟩) main_call9_v0) (TRef.of (T := ⟨S_, .f32⟩) main_call9_cst) (TRef.of (T := ⟨S100, .f32⟩) main_call9_v1) (fun x v => Host.reduceAdd x v reducesTo_S100x128_S100_d1 h_S_),
    TRef.unary (TRef.of (T := ⟨S100, .f32⟩) main_call9_v1) (TRef.of (T := ⟨S100x1, .f32⟩) main_call9_v2) (broadcastInDim S100x1 ![0] bcast_S100_S100x1_0),
    TRef.unary (TRef.of (T := ⟨S100x1, .f32⟩) main_call9_v2) (TRef.of (T := ⟨S100x1, .f32⟩) main_v70) Host.sqrt,
    nullary main_cst_17 (constant S_ .f32 0x2B8CBCCC#32),
    unary main_cst_17 main_v71 (broadcastInDim S100x1 ![] bcast_S_S100x1 : (⟨S_, .f32⟩ : BufTy).Contents (Elt F) → (⟨S100x1, .f32⟩ : BufTy).Contents (Elt F)),
    binary main_v70 main_v71 main_v72 (maximumf : (⟨S100x1, .f32⟩ : BufTy).Contents (Elt F) → (⟨S100x1, .f32⟩ : BufTy).Contents (Elt F) → (⟨S100x1, .f32⟩ : BufTy).Contents (Elt F)),
    unary main_v72 main_v73 (broadcastInDim S100x128 ![0, 1] bcast_S100x1_S100x128_0_1 : (⟨S100x1, .f32⟩ : BufTy).Contents (Elt F) → (⟨S100x128, .f32⟩ : BufTy).Contents (Elt F)),
    binary main_arg3 main_v73 main_v74 (Host.divf : (⟨S100x128, .f32⟩ : BufTy).Contents (Elt F) → (⟨S100x128, .f32⟩ : BufTy).Contents (Elt F) → (⟨S100x128, .f32⟩ : BufTy).Contents (Elt F)),
    TRef.binary (TRef.of (T := ⟨S101376x128, .f32⟩) main_v69) (TRef.of (T := ⟨S101376x128, .f32⟩) main_v69) (TRef.of (T := ⟨S101376x128, .f32⟩) main_call10_v0) mulf,
    TRef.nullary (TRef.of (T := ⟨S_, .f32⟩) main_call10_cst) (constant S_ .f32 0x00000000#32),
    TRef.binary (TRef.of (T := ⟨S101376x128, .f32⟩) main_call10_v0) (TRef.of (T := ⟨S_, .f32⟩) main_call10_cst) (TRef.of (T := ⟨S101376, .f32⟩) main_call10_v1) (fun x v => Host.reduceAdd x v reducesTo_S101376x128_S101376_d1 h_S_),
    TRef.unary (TRef.of (T := ⟨S101376, .f32⟩) main_call10_v1) (TRef.of (T := ⟨S101376x1, .f32⟩) main_call10_v2) (broadcastInDim S101376x1 ![0] bcast_S101376_S101376x1_0),
    TRef.unary (TRef.of (T := ⟨S101376x1, .f32⟩) main_call10_v2) (TRef.of (T := ⟨S101376x1, .f32⟩) main_v75) Host.sqrt,
    nullary main_cst_18 (constant S_ .f32 0x2B8CBCCC#32),
    unary main_cst_18 main_v76 (broadcastInDim S101376x1 ![] bcast_S_S101376x1 : (⟨S_, .f32⟩ : BufTy).Contents (Elt F) → (⟨S101376x1, .f32⟩ : BufTy).Contents (Elt F)),
    binary main_v75 main_v76 main_v77 (maximumf : (⟨S101376x1, .f32⟩ : BufTy).Contents (Elt F) → (⟨S101376x1, .f32⟩ : BufTy).Contents (Elt F) → (⟨S101376x1, .f32⟩ : BufTy).Contents (Elt F)),
    unary main_v77 main_v78 (broadcastInDim S101376x128 ![0, 1] bcast_S101376x1_S101376x128_0_1 : (⟨S101376x1, .f32⟩ : BufTy).Contents (Elt F) → (⟨S101376x128, .f32⟩ : BufTy).Contents (Elt F)),
    binary main_v69 main_v78 main_v79 (Host.divf : (⟨S101376x128, .f32⟩ : BufTy).Contents (Elt F) → (⟨S101376x128, .f32⟩ : BufTy).Contents (Elt F) → (⟨S101376x128, .f32⟩ : BufTy).Contents (Elt F)),
    unary main_v74 main_v80 ((transpose S128x100 [1, 0] · transposes_S100x128_S128x100_1_0) : (⟨S100x128, .f32⟩ : BufTy).Contents (Elt F) → (⟨S128x100, .f32⟩ : BufTy).Contents (Elt F)),
    binary main_v79 main_v80 main_v81 ((fun l r => Host.dotGeneral dot_S101376x128_S128x100_S101376x100_1_0_0_1_n_n none l r) : (⟨S101376x128, .f32⟩ : BufTy).Contents (Elt F) → (⟨S128x100, .f32⟩ : BufTy).Contents (Elt F) → (⟨S101376x100, .f32⟩ : BufTy).Contents (Elt F)),
    TRef.nullary (TRef.of (T := ⟨S101376x100, .i32⟩) main_call11_v0) (iotaInDim S101376x100 32 1),
    TRef.nullary (TRef.of (T := ⟨S_, .f32⟩) main_call11_cst) (constant S_ .f32 0xFF800000#32),
    TRef.nullary (TRef.of (T := ⟨S_, .i32⟩) main_call11_c) (constantI S_ 32 0#32),
    TRef.quaternary (TRef.of (T := ⟨S101376x100, .f32⟩) main_v81) (TRef.of (T := ⟨S101376x100, .i32⟩) main_call11_v0) (TRef.of (T := ⟨S_, .f32⟩) main_call11_cst) (TRef.of (T := ⟨S_, .i32⟩) main_call11_c) (TRef.of (T := ⟨S101376, .f32⟩) main_call11_v1_0) (fun x y u v j => (Host.argReduce reducer_argmax_f32_i32 x y u v reducesTo_S101376x100_S101376_d1 h_S_ j).1),
    TRef.quaternary (TRef.of (T := ⟨S101376x100, .f32⟩) main_v81) (TRef.of (T := ⟨S101376x100, .i32⟩) main_call11_v0) (TRef.of (T := ⟨S_, .f32⟩) main_call11_cst) (TRef.of (T := ⟨S_, .i32⟩) main_call11_c) (TRef.of (T := ⟨S101376, .i32⟩) main_v82) (fun x y u v j => (Host.argReduce reducer_argmax_f32_i32 x y u v reducesTo_S101376x100_S101376_d1 h_S_ j).2),
    unary main_v82 main_v83 (sitofp .f32 : (⟨S101376, .i32⟩ : BufTy).Contents (Elt F) → (⟨S101376, .f32⟩ : BufTy).Contents (Elt F)),
    reshape main_v83 main_v84 (rfl : (.f32 : EltTy) = .f32) shapeCasts_S101376_S99x1024x1,
    nullary main_c_19 (constantI S_ 32 0#32),
    unary main_c_19 main_v85 (broadcastInDim S1024 ![] bcast_S_S1024 : (⟨S_, .i32⟩ : BufTy).Contents (Elt F) → (⟨S1024, .i32⟩ : BufTy).Contents (Elt F)),
    binary main_arg1 main_v85 main_v86 (cmpi .slt : (⟨S1024, .i32⟩ : BufTy).Contents (Elt F) → (⟨S1024, .i32⟩ : BufTy).Contents (Elt F) → (⟨S1024, .i1⟩ : BufTy).Contents (Elt F)),
    nullary main_c_20 (constantI S_ 32 100000#32),
    unary main_c_20 main_v87 (broadcastInDim S1024 ![] bcast_S_S1024 : (⟨S_, .i32⟩ : BufTy).Contents (Elt F) → (⟨S1024, .i32⟩ : BufTy).Contents (Elt F)),
    binary main_arg1 main_v87 main_v88 (addi : (⟨S1024, .i32⟩ : BufTy).Contents (Elt F) → (⟨S1024, .i32⟩ : BufTy).Contents (Elt F) → (⟨S1024, .i32⟩ : BufTy).Contents (Elt F)),
    ternary main_v86 main_v88 main_arg1 main_v89 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v89 main_v90 (broadcastInDim S1024x1 ![0] bcast_S1024_S1024x1_0 : (⟨S1024, .i32⟩ : BufTy).Contents (Elt F) → (⟨S1024x1, .i32⟩ : BufTy).Contents (Elt F)),
    binary main_v31 main_v90 main_v91 ((fun x i => Host.gather gather_S100000_S1024x1_S1024_n_0_n_n_0_1_1 x i) : (⟨S100000, .i32⟩ : BufTy).Contents (Elt F) → (⟨S1024x1, .i32⟩ : BufTy).Contents (Elt F) → (⟨S1024, .i32⟩ : BufTy).Contents (Elt F)),
    unary main_v91 main_v92 (sitofp .f32 : (⟨S1024, .i32⟩ : BufTy).Contents (Elt F) → (⟨S1024, .f32⟩ : BufTy).Contents (Elt F)),
    reshape main_v92 main_v93 (rfl : (.f32 : EltTy) = .f32) shapeCasts_S1024_S1024x1 ]

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., binary_bufs_sub .., reshape_bufs_sub .., nullary_bufs_sub .., binary_bufs_sub .., unary_bufs_sub .., nullary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

set_option maxRecDepth 8192 in
set_option maxHeartbeats 62800000 in
/-- Every execution of the reference ends with the four results at their terms and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Term.s (m ((c.tc : Thread nD τ).loc main_arg0)) (m ((c.tc : Thread nD τ).loc main_arg1)) (m ((c.tc : Thread nD τ).loc main_arg2))
      ∧ r.2.mem ((c.tc : Thread nD τ).loc main_v67) = Term.chunkMax (Term.s (m ((c.tc : Thread nD τ).loc main_arg0)) (m ((c.tc : Thread nD τ).loc main_arg1)) (m ((c.tc : Thread nD τ).loc main_arg2)))
      ∧ r.2.mem ((c.tc : Thread nD τ).loc main_v84) = Term.lab (m ((c.tc : Thread nD τ).loc main_arg0)) (m ((c.tc : Thread nD τ).loc main_arg2)) (m ((c.tc : Thread nD τ).loc main_arg3))
      ∧ r.2.mem ((c.tc : Thread nD τ).loc main_v93) = Term.labq (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v64).trans (by simp only [ops, TRef.binary, TRef.nullary, TRef.quaternary, TRef.ternary, TRef.unary, TRef.toBuf, TRef.ofBuf, cast_eq]; after_results_simp <;> rfl),
      (h c main_v67).trans (by simp only [ops, TRef.binary, TRef.nullary, TRef.quaternary, TRef.ternary, TRef.unary, TRef.toBuf, TRef.ofBuf, cast_eq]; after_results_simp <;> rfl),
      (h c main_v84).trans (by simp only [ops, TRef.binary, TRef.nullary, TRef.quaternary, TRef.ternary, TRef.unary, TRef.toBuf, TRef.ofBuf, cast_eq]; after_results_simp <;> rfl),
      (h c main_v93).trans (by simp only [ops, TRef.binary, TRef.nullary, TRef.quaternary, TRef.ternary, TRef.unary, TRef.toBuf, TRef.ofBuf, cast_eq]; after_results_simp <;> rfl),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl),
      (h c main_arg2).trans (by simp only [ops, TRef.binary, TRef.nullary, TRef.quaternary, TRef.ternary, TRef.unary, TRef.toBuf, TRef.ofBuf, cast_eq]; after_results_simp <;> rfl),
      (h c main_arg3).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Run

end
-- ==== Proof.Claims.lean ====
/- The claims, one by one: the three frames, the named mask, and the equality of the kernel's four results with the
   reference's. -/
module

public import proofs.«01_k».proof.Defs
public import proofs.«01_k».proof.Proof.KernelArr
public import proofs.«01_k».proof.Proof.RefLabels
public import proofs.«01_k».proof.Proof.RefRun
public import proofs.«01_k».proof.Proof.Gen.Kernel.Frame
public import proofs.«01_k».proof.Proof.Gen.KernelIdeal.Value
public import proofs.«01_k».proof.Proof.Gen.Pre_in_bank
public import Idealize.ShloMosaic.Lib.ReduceAll
public import Idealize.ShloMosaic.Lib.Quiescent

@[expose] public section

noncomputable section

namespace Cert.Claims

open Idealize.ShloMosaic Idealize.SL.Sem Cert.RefAt

/-! ## Frames -/

/-- Every run of the kernel, from any memory, ends and leaves its arguments and semaphores as they were. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the idealized reference. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Run.run (F := Ideal) m ρ)

/-! ## The mask -/

/-- The named mask is the one rewritten constant, and it stands for minus infinity. -/
theorem preserves : Cert.preserves_Kernel_KernelIdeal :=
  IdealRules.named_const.statement Cert.KernelIdeal.κ "mask" .f32 0xF149F2CA#32 ⊥ rfl

/-! ## The values -/

/-- The precondition gives each index as a position of the bank. -/
theorem positions (x : FVec Ideal Cert.Pre_in_bank.S1024x128 .f32) (idx : IVec Cert.Pre_in_bank.S1024 32)
    (bank : FVec Ideal Cert.Pre_in_bank.S100000x128 .f32) (cents : FVec Ideal Cert.Pre_in_bank.S100x128 .f32)
    (h : Cert.Pre_in_bank.fn x idx bank cents = fun _ => 1#1) :
    ∃ pos : Fin 1024 → Fin 100000, ∀ i, (idx (ix1 i)).toInt = ((pos i).val : Int) := by
  have hr : ∀ i : Fin 1024, 0 ≤ (idx (ix1 i)).toInt ∧ (idx (ix1 i)).toInt < 100000 := by
    intro i
    have e := congrFun h (fun a => a.elim0)
    have w := Host.reduce_andi_all (t := Cert.Pre_in_bank.S_) _ _ _ _ _ e (ix1 i)
    obtain ⟨w1, w2⟩ := IntOp.andi_eq_one.1 w
    rw [show (100000 : Int) = (100000#32 : BitVec 32).toInt by decide, show (0 : Int) = (0#32 : BitVec 32).toInt by decide]
    exact ⟨(WordCmp.ofBool_decide_eq_one_iff _).1 w1, (WordCmp.ofBool_decide_eq_one_iff _).1 w2⟩
  exact ⟨fun i => ⟨(idx (ix1 i)).toInt.toNat, by have := hr i; omega⟩, fun i => by have := hr i; show _ = (((idx (ix1 i)).toInt.toNat : Nat) : Int); omega⟩

/-- Of arguments that agree, the kernel's four results are the reference's. -/
theorem algebraic : Cert.algebraic_KernelIdeal_ReferenceIdeal_pre_in_bank := by
  intro m ρ m' ρ' hpre hag
  have hp : ∀ c, ∃ pos : Fin 1024 → Fin 100000, ∀ i, (KernelIn.idx m c (ix1 i)).toInt = ((pos i).val : Int) :=
    fun c => positions _ _ _ _ (hpre c)
  choose pos hpos using hp
  refine ⟨fun c => KernelArr.sims m c (pos c), fun c => KernelArr.chunks m c (pos c), fun c => KernelArr.labels m c,
    fun c => KernelArr.owns m c (pos c), ?_, ?_⟩
  · refine (θ_run Cert.KernelIdeal.defs _ _).mono (fun r h c => ?_) (Cert.KernelIdeal.Value.run_blocks (F := Ideal) m ρ)
    obtain ⟨h0, h1, h2, h3, h4⟩ := h c
    exact ⟨h0.trans (KernelArr.final5 m c (pos c) (hpos c)), h1.trans (KernelArr.final6 m c (pos c) (hpos c)),
      h2.trans (KernelArr.final7 m c), h3.trans (KernelArr.final8 m c (pos c) (hpos c)), h4⟩
  · refine (θ_run Cert.ReferenceIdeal.defs _ _).mono (fun r h c => ?_) (Cert.ReferenceIdeal.Run.run (F := Ideal) m' ρ')
    obtain ⟨h0, h1, h2, h3, h4⟩ := h c
    obtain ⟨a0, a1, a2, a3⟩ := hag c
    refine ⟨h0.trans ?_, h1.trans ?_, h2.trans ?_, h3.trans ?_, h4⟩
    · rw [a0, a1, a2]
      exact funext fun i => (congrArg _ (eq_ix2 i)).trans (s_at _ _ _ (pos c) (hpos c) (i 0) (i 1))
    · rw [a0, a1, a2]
      exact funext fun i => (congrArg _ (eq_ix3 i)).trans (chunkMax_at _ _ _ (pos c) (hpos c) (i 0) (i 1) (i 2))
    · rw [a0, a2, a3]
      refine funext fun i => ?_
      obtain ⟨t, r, b, rfl⟩ : ∃ (t : Fin 99) (r : Fin 1024) (b : Fin 1), i = ix3 t r b := ⟨i 0, i 1, i 2, eq_ix3 i⟩
      obtain rfl : b = 0 := Subsingleton.elim _ _
      exact lab_at _ _ _ t r
    · rw [a0, a1, a2, a3]
      refine funext fun i => ?_
      obtain ⟨t, b, rfl⟩ : ∃ (t : Fin 1024) (b : Fin 1), i = ix2 t b := ⟨i 0, i 1, eq_ix2 i⟩
      obtain rfl : b = 0 := Subsingleton.elim _ _
      exact labq_at _ _ _ (pos c) (hpos c) _ t

end Cert.Claims

end
-- ==== Proof.NearStep.lean ====
/- What one grid point of the loss computes from its blocks: fifty-one rounds, each taking the best column that is left in
   every row, adding its weight and masking it out. -/
module

public import proofs.«01_k».proof.Proof.Gen.Kernel2Ideal.Frame
public import Idealize.ShloMosaic.Lib.Pipeline.Value

@[expose] public section

set_option maxRecDepth 16384

noncomputable section

namespace Cert.NearStep

open Cert.Kernel2Ideal Cert.Kernel2Ideal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The largest similarity left in each row. -/
def top (x : FVec F S8x56x32 .f32) : FVec F S8x1x1 .f32 :=
  shapeCast S8x1x1 (multiReduction .maximumf [1, 2] S8 x 0xFF800000#32 reduces_S8x56x32_S8 (.inl rfl) rfl) shapeCasts_S8_S8x1x1

/-- The columns that hold it. -/
def atTop (x : FVec F S8x56x32 .f32) : IVec S8x56x32 1 :=
  cmpf .oeq x (broadcastTo S8x56x32 (top x) broadcasts_S8x1x1_S8x56x32)

/-- The least number of those columns. -/
def least (g x : FVec F S8x56x32 .f32) : FVec F S8x1x1 .f32 :=
  shapeCast S8x1x1 (multiReduction .minimumf [1, 2] S8 (select (atTop x) g (broadcast S8x56x32 (Scalar.ofBits .f32 0x4F6E6B28#32)))
    0x7F800000#32 reduces_S8x56x32_S8 (.inl rfl) rfl) shapeCasts_S8_S8x1x1

/-- The column a round takes. -/
def picked (g x : FVec F S8x56x32 .f32) : IVec S8x56x32 1 :=
  andi (atTop x) (cmpf .oeq g (broadcastTo S8x56x32 (least g x) broadcasts_S8x1x1_S8x56x32))

/-- Its weight. -/
def weight (x : FVec F S8x56x32 .f32) : FVec F S8x1x1 .f32 :=
  exp (divf (top x) (broadcast S8x1x1 (Scalar.ofBits .f32 0x3D8F5C29#32)))

/-- Whether its label is the row's own. -/
def found (g : FVec F S8x56x32 .f32) (l : IVec S8x56x32 1) (x : FVec F S8x56x32 .f32) : IVec S8x1x1 1 :=
  cmpf .ogt (shapeCast S8x1x1 (multiReduction .maximumf [1, 2] S8
    (select (andi (picked g x) l) (broadcast S8x56x32 (Scalar.ofBits .f32 0x3F800000#32)) (broadcast S8x56x32 (Scalar.ofBits .f32 0x00000000#32)))
    0xFF800000#32 reduces_S8x56x32_S8 (.inl rfl) rfl) shapeCasts_S8_S8x1x1 : FVec F S8x1x1 .f32) (broadcast S8x1x1 (Scalar.ofBits .f32 0x00000000#32))

/-- The weight where the label is the row's own, zero elsewhere. -/
def matched (g : FVec F S8x56x32 .f32) (l : IVec S8x56x32 1) (x : FVec F S8x56x32 .f32) : FVec F S8x1x1 .f32 :=
  select (found g l x) (weight x) (broadcast S8x1x1 (Scalar.ofBits .f32 0x00000000#32))

/-- The similarities with the column taken masked out. -/
def cleared (g x : FVec F S8x56x32 .f32) : FVec F S8x56x32 .f32 :=
  select (picked g x) (broadcast S8x56x32 (Named.named κ "mask" 0xF149F2CA#32)) x

/-- The similarities left after `n` rounds. -/
def left (g x : FVec F S8x56x32 .f32) : Nat → FVec F S8x56x32 .f32
  | 0 => x
  | n + 1 => cleared g (left g x n)

/-- The sum of the weights taken in `n` rounds. -/
def total (g x : FVec F S8x56x32 .f32) : Nat → FVec F S8x1x1 .f32
  | 0 => broadcast S8x1x1 (Scalar.ofBits .f32 0x00000000#32)
  | n + 1 => addf (total g x n) (weight (left g x n))

/-- The sum of the weights taken in `n` rounds whose labels are the rows' own. -/
def share (g : FVec F S8x56x32 .f32) (l : IVec S8x56x32 1) (x : FVec F S8x56x32 .f32) : Nat → FVec F S8x1x1 .f32
  | 0 => broadcast S8x1x1 (Scalar.ofBits .f32 0x00000000#32)
  | n + 1 => addf (share g l x n) (matched g l (left g x n))

/-- The block's part of the loss. -/
def part (g : FVec F S8x56x32 .f32) (l : IVec S8x56x32 1) (x : FVec F S8x56x32 .f32) : F .f32 :=
  Scalar.divf (extractAt ![0, 0, 0, 0] (shapeCast S1x1x1x1 (multiReduction .add [1, 2, 3] S1
    (shapeCast S1x8x1x1 (subf (log (total g x 51)) (log (share g l x 51))) shapeCasts_S8x1x1_S1x8x1x1 : FVec F S1x8x1x1 .f32)
    0x00000000#32 reduces_S1x8x1x1_S1 (.inl rfl) rfl) shapeCasts_S1_S1x1x1x1 : FVec F S1x1x1x1 .f32) inpos_S1x1x1x1_p0_0_0_0) (Scalar.ofBits .f32 0x44800000#32)

variable (c : Dev nD) (i : grid0.Coords)
variable (arg1 : Memref sig .tc .vmem S8x56x32 .f32) (harg1 : arg1.IsWhole)
variable (arg2 : Memref sig .tc .vmem S8x56x32 .f32) (harg2 : arg2.IsWhole)
variable (arg3 : Memref sig .tc .vmem S8x56x32 .f32) (harg3 : arg3.IsWhole)
variable (arg4 : Memref sig .tc .vmem S8x1 .f32) (harg4 : arg4.IsWhole)
variable (arg5 : Memref sig .tc .vmem S1x1 .f32) (harg5 : arg5.IsWhole)
variable (x0 x1 x2 : Vec F S8x56x32 .f32) (x3 : Vec F S8x1 .f32) (xo4 : Vec F S1x1 .f32)

/-- A later point adds its part to what the earlier ones left. -/
theorem out_B (hc0 : ¬cond0_0 i) : out0_B_4 c i arg1 harg1 arg2 harg2 arg3 harg3 arg4 harg4 arg5 harg5 hc0 x0 x1 x2 x3 xo4
    = k0_pay1 (part (k0_pay2 x2) (k0_pay3 x3 x1) x0) xo4 := by
  unfold out0_B_4
  rw [View.read_writes_junk_eq_canon]
  unfold kernelRun0_B
  dsimp only
  sl_unfold_words
  rw [View.canon_unit_zero hz2]
  simp only [View.readAt_eq_ld, harg1.read_unread, harg2.read_unread, harg3.read_unread, harg4.read_unread, harg5.read_unread,
    View.ld_unit_zero (S := S8x56x32) hz3, View.ld_unit_zero (S := S8x1) hz2, View.ld_unit_zero (S := S1x1) hz2]

  rfl

/-- The first point adds its part to zero. -/
theorem out_A (hc0 : cond0_0 i) : out0_A_4 c i arg1 harg1 arg2 harg2 arg3 harg3 arg4 harg4 arg5 harg5 hc0 x0 x1 x2 x3
    = k0_pay1 (part (k0_pay2 x2) (k0_pay3 x3 x1) x0) k0_pay298 := by
  unfold out0_A_4
  rw [View.read_writes_junk_eq_canon]
  unfold kernelRun0_A
  dsimp only
  sl_unfold_words
  rw [View.canon_cons_unit_zero hz2]
  simp only [View.readAt_eq_ld, harg1.read_unread, harg2.read_unread, harg3.read_unread, harg4.read_unread,
    View.ld_unit_zero (S := S8x56x32) hz3, View.ld_unit_zero (S := S8x1) hz2]
  refine congrArg₂ k0_pay1 rfl ?_
  exact View.readCov_unit_zero _ hz2 _ _

end Cert.NearStep

end
-- ==== Proof.NearRank.lean ====
/- The mathematics of one row of the loss. The columns are ordered by their similarities, the larger first, and columns with
   equal similarities by their numbers, the smaller first; a column's place is the number of columns before it. Taking the
   best column that is left and masking it out, again and again, takes the columns at the places 0, 1, 2, and so on. -/
module

public import Mathlib.Data.EReal.Operations
public import Mathlib.Algebra.BigOperators.Group.Finset.Basic
public import Mathlib.Data.Finset.Max
public import Mathlib.Data.Finset.Fold

@[expose] public section

noncomputable section

namespace Cert.NearRank

open Finset Classical

variable {J : Type} [Fintype J]

/-- Column `i` comes before column `j`. -/
def Before (x g : J → EReal) (i j : J) : Prop := x j < x i ∨ (x i = x j ∧ g i < g j)

/-- How many columns come before column `j`. -/
def place (x g : J → EReal) (j : J) : Nat := (univ.filter fun i => Before x g i j).card

/-- The similarities with the columns at the first `n` places masked out. -/
def after (x g : J → EReal) (n : Nat) (j : J) : EReal := if place x g j < n then ⊥ else x j

/-- The largest similarity. -/
def best (y : J → EReal) : EReal := univ.fold max ⊥ y

/-- The least number among the columns that hold the largest similarity, `L` standing for the others. -/
def first (L : EReal) (g y : J → EReal) : EReal := univ.fold min ⊤ fun j => if y j = best y then g j else L

/-- The column one round takes. -/
def Taken (L : EReal) (g y : J → EReal) (j : J) : Prop := y j = best y ∧ g j = first L g y

/-- The columns that are not masked have different numbers where their similarities are equal, and none exceeds `L`. -/
structure Apart (L : EReal) (x g : J → EReal) : Prop where
  eq : ∀ i j, x i = x j → g i = g j → ⊥ < x i → i = j
  le : ∀ j, ⊥ < x j → g j ≤ L

variable {L : EReal} {x g : J → EReal}

theorem before_trans {i j k : J} (h : Before x g i j) (h' : Before x g j k) : Before x g i k := by
  rcases h with h | ⟨h, hg⟩ <;> rcases h' with h' | ⟨h', hg'⟩
  · exact .inl (h'.trans h)
  · exact .inl (h' ▸ h)
  · exact .inl (h ▸ h')
  · exact .inr ⟨h.trans h', hg.trans hg'⟩

theorem not_before_self (j : J) : ¬Before x g j j := by
  rintro (h | ⟨-, h⟩) <;> exact lt_irrefl _ h

/-- A column before another has a smaller place. -/
theorem place_lt {i j : J} (h : Before x g i j) : place x g i < place x g j := by
  refine card_lt_card (Finset.ssubset_iff_subset_ne.2 ⟨fun k hk => ?_, fun e => ?_⟩)
  · rw [mem_filter] at hk ⊢
    exact ⟨hk.1, before_trans hk.2 h⟩
  · have : i ∈ univ.filter fun k => Before x g k i := e ▸ mem_filter.2 ⟨mem_univ _, h⟩
    exact not_before_self i (mem_filter.1 this).2

/-- Two columns that are not masked have different places. -/
theorem place_inj (hx : Apart L x g) {i j : J} (hi : ⊥ < x i) (h : place x g i = place x g j) : i = j := by
  rcases lt_trichotomy (x i) (x j) with hl | he | hl
  · exact absurd h (place_lt (.inl hl : Before x g j i)).ne'
  · rcases lt_trichotomy (g i) (g j) with gl | ge | gl
    · exact absurd h (place_lt (.inr ⟨he, gl⟩ : Before x g i j)).ne
    · exact hx.eq i j he ge hi
    · exact absurd h (place_lt (.inr ⟨he.symm, gl⟩ : Before x g j i)).ne'
  · exact absurd h (place_lt (.inl hl : Before x g i j)).ne

/-- Either all that is left is masked, or some column that is not masked is at place `n`. -/
theorem some_at (hx : Apart L x g) (n : Nat) : (∀ j, n ≤ place x g j → x j = ⊥) ∨ ∃ b, ⊥ < x b ∧ place x g b = n := by
  by_cases h : ∀ j, n ≤ place x g j → x j = ⊥
  · exact .inl h
  right
  push Not at h
  obtain ⟨j, hj, hb⟩ := h
  obtain ⟨b, hbm, hmin⟩ := exists_min_image (univ.filter fun j => n ≤ place x g j ∧ ⊥ < x j) (place x g)
    ⟨j, mem_filter.2 ⟨mem_univ _, hj, bot_lt_iff_ne_bot.2 hb⟩⟩
  rw [mem_filter] at hbm
  refine ⟨b, hbm.2.2, le_antisymm ?_ hbm.2.1⟩
  have hsmall : ∀ i, Before x g i b → ⊥ < x i ∧ place x g i < n := fun i hi => by
    have hl : ⊥ < x i := by
      rcases hi with h | ⟨h, -⟩
      · exact hbm.2.2.trans h
      · exact h ▸ hbm.2.2
    refine ⟨hl, ?_⟩
    by_contra hn
    exact absurd (hmin i (mem_filter.2 ⟨mem_univ _, not_lt.1 hn, hl⟩)) (not_le.2 (place_lt hi))
  calc place x g b = ((univ.filter fun i => Before x g i b).image (place x g)).card := by
        rw [card_image_of_injOn]
        · rfl
        · intro i hi k hk e
          exact place_inj hx (hsmall i (mem_filter.1 hi).2).1 e
    _ ≤ (range n).card := card_le_card fun k hk => by
        obtain ⟨i, hi, rfl⟩ := mem_image.1 hk
        exact mem_range.2 (hsmall i (mem_filter.1 hi).2).2
    _ = n := card_range n

/-- When only masked columns are left the largest similarity is minus infinity. -/
theorem best_masked {n : Nat} (h : ∀ j, n ≤ place x g j → x j = ⊥) : (∀ j, after x g n j = ⊥) ∧ best (after x g n) = ⊥ := by
  have ha : ∀ j, after x g n j = ⊥ := fun j => by
    unfold after
    split
    · rfl
    · next hn => exact h j (not_lt.1 hn)
  refine ⟨ha, le_bot_iff.1 ?_⟩
  unfold best
  rw [fold_max_le]
  exact ⟨le_rfl, fun j _ => (ha j).le⟩

/-- The best of what is left is the column at place `n`. -/
theorem best_at {n : Nat} {b : J} (hb : ⊥ < x b) (hn : place x g b = n) : best (after x g n) = x b := by
  have hab : after x g n b = x b := if_neg (by omega)
  refine le_antisymm ?_ ?_
  · unfold best
    rw [fold_max_le]
    refine ⟨bot_le, fun j _ => ?_⟩
    unfold after
    split
    · exact bot_le
    · next hj =>
      by_contra hl
      exact hj (hn ▸ place_lt (.inl (not_le.1 hl) : Before x g j b))
  · unfold best
    rw [le_fold_max]
    exact .inr ⟨b, mem_univ _, hab.ge⟩

/-- A column that holds the largest similarity left is at place `n` or later. -/
theorem of_best {n : Nat} {b j : J} (hb : ⊥ < x b) (hj : after x g n j = x b) : n ≤ place x g j ∧ x j = x b := by
  unfold after at hj
  split at hj
  · exact absurd hj hb.ne
  · next h => exact ⟨not_lt.1 h, hj⟩

/-- Its number is the least of those that hold the same similarity. -/
theorem first_at (hx : Apart L x g) {n : Nat} {b : J} (hb : ⊥ < x b) (hn : place x g b = n) : first L g (after x g n) = g b := by
  have hab : after x g n b = x b := if_neg (by omega)
  unfold first
  rw [best_at hb hn]
  refine le_antisymm ?_ ?_
  · rw [fold_min_le]
    exact .inr ⟨b, mem_univ _, (if_pos hab).le⟩
  · rw [le_fold_min]
    refine ⟨le_top, fun j _ => ?_⟩
    split
    · next h =>
      obtain ⟨hj, he⟩ := of_best hb h
      by_contra hl
      exact absurd (place_lt (.inr ⟨he, not_le.1 hl⟩ : Before x g j b)) (by omega)
    · exact hx.le b hb

/-- A round takes the column at place `n` and no other. -/
theorem taken_at (hx : Apart L x g) {n : Nat} {b : J} (hb : ⊥ < x b) (hn : place x g b = n) (j : J) :
    Taken L g (after x g n) j ↔ j = b := by
  unfold Taken
  rw [best_at hb hn, first_at hx hb hn]
  constructor
  · rintro ⟨h, hg⟩
    have he := (of_best hb h).2
    exact hx.eq j b he hg (he ▸ hb)
  · rintro rfl
    exact ⟨if_neg (by omega), rfl⟩

/-- After a round the column at place `n` is masked out too. -/
theorem after_succ (hx : Apart L x g) (n : Nat) (j : J) :
    (if Taken L g (after x g n) j then ⊥ else after x g n j) = after x g (n + 1) j := by
  rcases some_at hx n with h | ⟨b, hb, hn⟩
  · rw [(best_masked h).1 j, ite_self]
    exact ((best_masked fun k hk => h k (by omega)).1 j).symm
  · rw [taken_at hx hb hn]
    split
    · next e =>
      subst e
      exact (if_pos (by omega)).symm
    · next e =>
      unfold after
      by_cases hj : place x g j < n
      · rw [if_pos hj, if_pos (by omega)]
      · rw [if_neg hj]
        by_cases hk : place x g j < n + 1
        · rw [if_pos hk]
          by_contra hl
          exact e (place_inj hx (bot_lt_iff_ne_bot.2 hl) (by omega))
        · rw [if_neg hk]

variable {M : Type} [AddCommMonoid M]

/-- The sum over the first `n` places, place by place. -/
theorem sum_succ (x g : J → EReal) (f : J → M) (n : Nat) :
    (∑ j, if place x g j < n + 1 then f j else 0) = (∑ j, if place x g j < n then f j else 0) + ∑ j, if place x g j = n then f j else 0 := by
  rw [← sum_add_distrib]
  refine sum_congr rfl fun j _ => ?_
  by_cases h : place x g j < n
  · rw [if_pos h, if_pos (by omega), if_neg (by omega), add_zero]
  · rw [if_neg h, zero_add]
    by_cases h' : place x g j = n
    · rw [if_pos h', if_pos (by omega)]
    · rw [if_neg h', if_neg (by omega)]

/-- What a round adds: the weight of the column at place `n`, if that column has the property asked for; a masked column
    weighs nothing. -/
theorem sum_at (hx : Apart L x g) (w : EReal → M) (hw : w ⊥ = 0) (p : J → Prop) (n : Nat) :
    (if ∃ j, Taken L g (after x g n) j ∧ p j then w (best (after x g n)) else 0)
      = ∑ j, if place x g j = n then (if p j then w (x j) else 0) else 0 := by
  rcases some_at hx n with h | ⟨b, hb, hn⟩
  · rw [(best_masked h).2, hw, ite_self]
    refine (sum_eq_zero fun j _ => ?_).symm
    split
    · next e => rw [h j e.ge, hw, ite_self]
    · rfl
  · rw [best_at hb hn, sum_eq_single b]
    · simp only [taken_at hx hb hn, exists_eq_left, if_pos hn]
    · intro j _ hj
      split
      · next e =>
        have : x j = ⊥ := by
          by_contra hl
          exact hj (place_inj hx (bot_lt_iff_ne_bot.2 hl) (by omega))
        rw [this, hw, ite_self]
      · rfl
    · exact fun h => absurd (mem_univ _) h

/-- The same without a property. -/
theorem sum_all_at (hx : Apart L x g) (w : EReal → M) (hw : w ⊥ = 0) (n : Nat) :
    w (best (after x g n)) = ∑ j, if place x g j = n then w (x j) else 0 := by
  rcases some_at hx n with h | ⟨b, hb, hn⟩
  · rw [(best_masked h).2, hw]
    refine (sum_eq_zero fun j _ => ?_).symm
    split
    · next e => rw [h j e.ge, hw]
    · rfl
  · have := sum_at hx w hw (fun _ => True) n
    simp only [and_true, if_true] at this
    rw [← this, if_pos ⟨b, (taken_at hx hb hn b).2 rfl⟩]

end Cert.NearRank

end
-- ==== Proof.NearSpec.lean ====
/- The loss in plain mathematics: each row has 56 chunks of 32 columns; a column weighs the exponential of its similarity
   over the temperature; a row's loss is the logarithm of the weight of its first fifty-one columns, less that of those of
   them whose labels are the row's own; the loss is the mean over the rows. -/
module

public import proofs.«01_k».proof.Proof.NearRank
public import Idealize.ShloMosaic.Lib.Pointwise

@[expose] public section

noncomputable section

namespace Cert.NearSpec

open Idealize.ShloMosaic Cert.NearRank

/-- The columns of a row: chunk and place in the chunk. -/
abbrev Cols : Type := Fin 56 × Fin 32

/-- Row `i` of an array of chunks. -/
def row {N : Nat} (x : FVec Ideal ⟨3, ![N, 56, 32]⟩ .f32) (i : Fin N) : Cols → EReal := fun j => x (ix3 i j.1 j.2)

/-- The columns' numbers: a chunk's first number and the place in the chunk. -/
def nums {N : Nat} (g : FVec Ideal ⟨3, ![N, 56, 32]⟩ .f32) (i : Fin N) : Cols → EReal :=
  fun j => g (ix3 i j.1 j.2) + FloatOps.sitofp (F := Ideal) .f32 (BitVec.ofNat 32 j.2.val)

/-- The columns whose labels are the row's own. -/
def Own {N : Nat} (l : FVec Ideal ⟨3, ![N, 56, 32]⟩ .f32) (q : FVec Ideal ⟨2, ![N, 1]⟩ .f32) (i : Fin N) (j : Cols) : Prop :=
  l (ix3 i j.1 j.2) = q (ix2 i 0)

/-- The temperature as an f32. -/
def temp : EReal := Ideal.ofBits .f32 0x3D8F5C29#32

/-- A similarity's weight. -/
def weight (y : EReal) : EReal := Ideal.exp (Ideal.div y temp)

/-- The bound on column numbers, as an f32. -/
def bound : EReal := Ideal.ofBits .f32 0x4F6E6B28#32

open Classical in
/-- The weight of the first `k` columns. -/
def total (x g : Cols → EReal) (k : Nat) : EReal := ∑ j, if place x g j < k then weight (x j) else 0

open Classical in
/-- The weight of those of them that have the property asked for. -/
def share (x g : Cols → EReal) (p : Cols → Prop) (k : Nat) : EReal :=
  ∑ j, if place x g j < k then (if p j then weight (x j) else 0) else 0

/-- A row's loss. -/
def rowLoss (x g : Cols → EReal) (p : Cols → Prop) : EReal := Ideal.log (total x g 51) - Ideal.log (share x g p 51)

/-- The number of rows as an f32. -/
def rows : EReal := Ideal.ofBits .f32 0x44800000#32

/-- The sum of the rows' losses over the number of rows. -/
def lossOf {N : Nat} (x l g : FVec Ideal ⟨3, ![N, 56, 32]⟩ .f32) (q : FVec Ideal ⟨2, ![N, 1]⟩ .f32) : EReal :=
  Ideal.div (∑ i, rowLoss (row x i) (nums g i) (Own l q i)) rows

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

theorem rows_eq : rows = ((1024 : ℝ) : EReal) := by
  unfold rows
  simp [Ideal.ofBits, Ideal.ieee]
  norm_num
  rw [← EReal.coe_mul]
  norm_num

/-- The temperature is a positive number. -/
theorem temp_pos : ∃ r : ℝ, 0 < r ∧ temp = (r : EReal) := by
  refine ⟨((2 ^ 23 + 1006633 : ℕ) : ℝ) * (2 : ℝ) ^ (-27 : ℤ), by positivity, ?_⟩
  unfold temp
  simp [Ideal.ofBits, Ideal.ieee]

/-- A masked column weighs nothing. -/
theorem weight_bot : weight ⊥ = 0 := by
  obtain ⟨r, hr, ht⟩ := temp_pos
  unfold weight Ideal.div
  rw [ht, if_neg (by exact_mod_cast hr.ne'), ← EReal.coe_inv, EReal.bot_mul_coe_of_pos (inv_pos.2 hr)]
  rfl

/-- Dividing a sum by the number of rows divides each term. -/
theorem div_sum {ι : Type} (s : Finset ι) (f : ι → EReal) : Ideal.div (∑ i ∈ s, f i) rows = ∑ i ∈ s, Ideal.div (f i) rows := by
  have e : ∀ y, Ideal.div y rows = y * ((1024⁻¹ : ℝ) : EReal) := fun y => by
    unfold Ideal.div
    rw [rows_eq, if_neg (by norm_num), ← EReal.coe_inv]
  simp only [e]
  classical
  induction s using Finset.induction_on with
  | empty => simp
  | insert a s ha ih =>
    rw [Finset.sum_insert ha, Finset.sum_insert ha, ← ih, EReal.right_distrib_of_nonneg_of_ne_top (by exact_mod_cast (by norm_num : (0 : ℝ) ≤ 1024⁻¹)) (EReal.coe_ne_top _)]

/-- The sums of 128 blocks of 8 rows are the sum over the 1024 rows. -/
theorem sum_blocks (f : Fin 1024 → EReal) : (∑ t : Fin 128, ∑ r : Fin 8, f ⟨t.val * 8 + r.val, by omega⟩) = ∑ i, f i := by
  rw [← Fintype.sum_prod_type']
  refine Fintype.sum_equiv finProdFinEquiv _ _ fun p => ?_
  congr 1
  apply Fin.ext
  show p.1.val * 8 + p.2.val = p.2.val + 8 * p.1.val
  omega

end Cert.NearSpec

end
-- ==== Proof.NearBlock.lean ====
/- One grid point's part of the loss: of a block of eight rows, the sum of the rows' losses over the number of rows. -/
module

public import proofs.«01_k».proof.Proof.NearStep
public import proofs.«01_k».proof.Proof.NearSpec
public import proofs.«01_k».proof.Proof.Lanes

@[expose] public section

noncomputable section

namespace Cert.NearBlock

open Cert.Kernel2Ideal Cert.Kernel2Ideal.Gen Cert.NearStep Cert.NearRank Cert.NearSpec Idealize.ShloMosaic

variable (g x : FVec Ideal S8x56x32 .f32) (i : Fin 8)

/-- The largest similarity left in a row. -/
theorem top_at : top x (ix3 i 0 0) = best (row x i) := by
  pointwise [top]
  rw [ofBits_bot]
  rfl

open Classical in
/-- The column a round takes. -/
theorem picked_at (j : Cols) : picked g x (ix3 i j.1 j.2) = BitVec.ofBool (decide (Taken bound (row g i) (row x i) j)) := by
  pointwise [picked, atTop, least, top]
  rw [ofBits_bot, ofBits_top, WordCmp.andi_ofBool, ← Bool.decide_and]
  exact congrArg BitVec.ofBool (decide_eq_decide.2 Iff.rfl)

/-- The largest similarity's weight. -/
theorem weight_at : NearStep.weight x (ix3 i 0 0) = NearSpec.weight (best (row x i)) := by
  pointwise [NearStep.weight]
  rw [top_at]
  rfl

open Classical in
/-- The weight where the column's label is the row's own. -/
theorem matched_at (l : IVec S8x56x32 1) (p : Cols → Prop) (hl : ∀ j, l (ix3 i j.1 j.2) = BitVec.ofBool (decide (p j))) :
    matched g l x (ix3 i 0 0) = if ∃ j, Taken bound (row g i) (row x i) j ∧ p j then NearSpec.weight (best (row x i)) else 0 := by
  pointwise [matched, found]
  rw [ofBits_bot, weight_at]
  have e : ∀ j : Cols, IntOp.andi (picked g x (ix3 i j.1 j.2)) (l (ix3 i j.1 j.2))
      = BitVec.ofBool (decide (Taken bound (row g i) (row x i) j ∧ p j)) := fun j => by
    rw [picked_at, hl, WordCmp.andi_ofBool, ← Bool.decide_and]
  simp only [e]
  refine if_congr ((Lanes.some_one _).trans ?_) rfl rfl
  simp only [decide_eq_true_eq]

/-- The similarities left after `n` rounds. -/
theorem left_at (h : Apart bound (row x i) (row g i)) (n : Nat) : row (left g x n) i = after (row x i) (row g i) n := by
  induction n with
  | zero =>
    funext j
    exact (if_neg (Nat.not_lt_zero _)).symm
  | succ n ih =>
    funext j
    rw [← after_succ h n j, ← ih]
    show Scalar.select (picked g (left g x n) (ix3 i j.1 j.2)) _ _ = _
    rw [picked_at, WordCmp.select_ofBool]
    by_cases hp : Taken bound (row g i) (row (left g x n) i) j
    · simp only [hp, decide_true, if_true]
      rfl
    · simp only [hp, decide_false, if_false, Bool.false_eq_true]
      rfl

/-- The sum of the weights taken in `n` rounds. -/
theorem total_at (h : Apart bound (row x i) (row g i)) (n : Nat) : NearStep.total g x n (ix3 i 0 0) = NearSpec.total (row x i) (row g i) n := by
  induction n with
  | zero =>
    show Ideal.ofBits .f32 0#32 = _
    unfold NearSpec.total
    simp [Ideal.ofBits, Ideal.ieee]
  | succ n ih =>
    show NearStep.total g x n (ix3 i 0 0) + NearStep.weight (left g x n) (ix3 i 0 0) = _
    rw [ih, weight_at, left_at g x i h, sum_all_at h _ weight_bot]
    exact (sum_succ _ _ _ n).symm

open Classical in
/-- The sum of those whose labels are the row's own. -/
theorem share_at (h : Apart bound (row x i) (row g i)) (l : IVec S8x56x32 1) (p : Cols → Prop)
    (hl : ∀ j, l (ix3 i j.1 j.2) = BitVec.ofBool (decide (p j))) (n : Nat) :
    NearStep.share g l x n (ix3 i 0 0) = NearSpec.share (row x i) (row g i) p n := by
  induction n with
  | zero =>
    show Ideal.ofBits .f32 0#32 = _
    unfold NearSpec.share
    simp [Ideal.ofBits, Ideal.ieee]
  | succ n ih =>
    show NearStep.share g l x n (ix3 i 0 0) + matched g l (left g x n) (ix3 i 0 0) = _
    rw [ih, matched_at g (left g x n) i l p hl, left_at g x i h, sum_at h _ weight_bot]
    exact (sum_succ _ _ _ n).symm

/-- The numbers the kernel gives the columns. -/
theorem nums_at (y : Vec Ideal S8x56x32 .f32) : row (k0_pay2 (F := Ideal) y) i = nums y i := by
  funext j
  show k0_pay2 (F := Ideal) y (ix3 i j.1 j.2) = _
  pointwise [k0_pay2]
  rfl

open Classical in
/-- The columns the kernel finds to have the row's own label. -/
theorem own_at (l : Vec Ideal S8x56x32 .f32) (q : Vec Ideal S8x1 .f32) (j : Cols) :
    k0_pay3 (F := Ideal) q l (ix3 i j.1 j.2) = BitVec.ofBool (decide (Own l q i j)) := by
  pointwise [k0_pay3]
  exact congrArg BitVec.ofBool (decide_eq_decide.2 Iff.rfl)

/-- All eight rows are summed. -/
theorem fiber (k : S1x8x1x1.Idx) : reduces_S1x8x1x1_S1.drop k = (ix1 0 : S1.Idx) ↔ ∃ r : Fin 8, (ix4 0 r 0 0 : S1x8x1x1.Idx) = k := by
  constructor
  · intro _
    refine ⟨k 1, ?_⟩
    funext c
    match c with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  · rintro ⟨r, rfl⟩
    funext c
    match c with
    | ⟨0, _⟩ => rfl

/-- The block's part. -/
theorem part_at (x l y : Vec Ideal S8x56x32 .f32) (q : Vec Ideal S8x1 .f32) (h : ∀ i, Apart bound (row x i) (nums y i)) :
    part (k0_pay2 (F := Ideal) y) (k0_pay3 (F := Ideal) q l) x = lossOf x l y q := by
  have e : ∀ i : Fin 8, Ideal.log (NearStep.total (k0_pay2 (F := Ideal) y) x 51 (ix3 i 0 0))
      - Ideal.log (NearStep.share (k0_pay2 (F := Ideal) y) (k0_pay3 (F := Ideal) q l) x 51 (ix3 i 0 0)) = rowLoss (row x i) (nums y i) (Own l q i) := fun i => by
    have h' : Apart bound (row x i) (row (k0_pay2 (F := Ideal) y) i) := by
      rw [nums_at]
      exact h i
    rw [total_at _ x i h', share_at _ x i h' _ _ (own_at i l q), nums_at]
    rfl
  pointwise [part]
  unfold lossOf
  refine congrArg₂ Ideal.div ?_ rfl
  unfold Ideal.reduceAdd
  rw [Finset.sum_filter_eq_sum_of_fiber _ (fun r : Fin 8 => (ix4 0 r 0 0 : S1x8x1x1.Idx)) (fun _ _ e => congrFun e 1) fiber]
  refine Finset.sum_congr rfl fun r _ => ?_
  rw [← e r]
  pointwise []

end Cert.NearBlock

end
-- ==== Proof.NearArr.lean ====
/- The loss after the whole grid: a grid point reads eight rows, adds their part of the loss to what the points before left,
   and the last point's sum, which is written back, is the loss of all rows. -/
module

public import proofs.«01_k».proof.Proof.NearBlock
public import Idealize.ShloMosaic.Lib.Pipeline.Value
public import Idealize.ShloMosaic.Lib.Pipeline.ValueKit.Acc

@[expose] public section

set_option maxRecDepth 16384

noncomputable section

namespace Cert.NearArr

open Cert.Kernel2Ideal Cert.Kernel2Ideal.Gen Cert.NearRank Cert.NearSpec Cert.NearStep Cert.NearBlock Idealize.ShloMosaic Idealize.ShloMosaic.TcCoe Idealize.SL.Sem

variable (m : (ℓ : Loc nD τ sig) → Buf (Elt Ideal) ℓ) (ρ : Dev nD → PrngReg) (c : Dev nD)

/-- The similarities. -/
abbrev sims : FVec Ideal S1024x56x32 .f32 := m ((c : Thread nD τ).loc main_arg0)
/-- The columns' labels. -/
abbrev labels : FVec Ideal S1024x56x32 .f32 := m ((c : Thread nD τ).loc main_arg1)
/-- The chunks' first numbers. -/
abbrev firsts : FVec Ideal S1024x56x32 .f32 := m ((c : Thread nD τ).loc main_arg2)
/-- The rows' labels. -/
abbrev owns : FVec Ideal S1024x1 .f32 := m ((c : Thread nD τ).loc main_arg3)

/-! ## Where each window's block lies -/

/-- The grid has 128 points. -/
theorem points : cfg0.N = 128 := N_0

theorem at0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at1 : ∀ t : Fin cfg0.N, win0_1.index t (0 : Fin 3) = t.val ∧ win0_1.index t (1 : Fin 3) = 0 ∧ win0_1.index t (2 : Fin 3) = 0 :=
  (by decide +kernel : ∀ t : Fin grid0.N, _)
theorem at2 : ∀ t : Fin cfg0.N, win0_2.index t (0 : Fin 3) = t.val ∧ win0_2.index t (1 : Fin 3) = 0 ∧ win0_2.index t (2 : Fin 3) = 0 :=
  (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)

/-- The row of the arrays that is row `r` of point `t`'s block. -/
abbrev rowAt (t : Fin cfg0.N) (r : Fin 8) : Fin 1024 := ⟨t.val * 8 + r.val, by have := t.isLt.trans_eq points; omega⟩

theorem emb0 (t : Fin cfg0.N) (r : Fin 8) (a : Fin 56) (b : Fin 32) :
    ((cfg0.win 0).blk t).view.emb (ix3 r a b : S8x56x32.Idx) = (ix3 (rowAt t r) a b : S1024x56x32.Idx) := by
  obtain ⟨e0, e1, e2⟩ := at0 t
  funext d; apply Fin.ext
  match d with
  | ⟨0, _⟩ => show win0_0.index t (0 : Fin 3) * 8 + 1 * r.val = t.val * 8 + r.val; omega
  | ⟨1, _⟩ => show win0_0.index t (1 : Fin 3) * 56 + 1 * a.val = a.val; omega
  | ⟨2, _⟩ => show win0_0.index t (2 : Fin 3) * 32 + 1 * b.val = b.val; omega

theorem emb1 (t : Fin cfg0.N) (r : Fin 8) (a : Fin 56) (b : Fin 32) :
    ((cfg0.win 1).blk t).view.emb (ix3 r a b : S8x56x32.Idx) = (ix3 (rowAt t r) a b : S1024x56x32.Idx) := by
  obtain ⟨e0, e1, e2⟩ := at1 t
  funext d; apply Fin.ext
  match d with
  | ⟨0, _⟩ => show win0_1.index t (0 : Fin 3) * 8 + 1 * r.val = t.val * 8 + r.val; omega
  | ⟨1, _⟩ => show win0_1.index t (1 : Fin 3) * 56 + 1 * a.val = a.val; omega
  | ⟨2, _⟩ => show win0_1.index t (2 : Fin 3) * 32 + 1 * b.val = b.val; omega

theorem emb2 (t : Fin cfg0.N) (r : Fin 8) (a : Fin 56) (b : Fin 32) :
    ((cfg0.win 2).blk t).view.emb (ix3 r a b : S8x56x32.Idx) = (ix3 (rowAt t r) a b : S1024x56x32.Idx) := by
  obtain ⟨e0, e1, e2⟩ := at2 t
  funext d; apply Fin.ext
  match d with
  | ⟨0, _⟩ => show win0_2.index t (0 : Fin 3) * 8 + 1 * r.val = t.val * 8 + r.val; omega
  | ⟨1, _⟩ => show win0_2.index t (1 : Fin 3) * 56 + 1 * a.val = a.val; omega
  | ⟨2, _⟩ => show win0_2.index t (2 : Fin 3) * 32 + 1 * b.val = b.val; omega

theorem emb3 (t : Fin cfg0.N) (r : Fin 8) :
    ((cfg0.win 3).blk t).view.emb (ix2 r 0 : S8x1.Idx) = (ix2 (rowAt t r) 0 : S1024x1.Idx) := by
  obtain ⟨e0, e1⟩ := at3 t
  funext d; apply Fin.ext
  match d with
  | ⟨0, _⟩ => show win0_3.index t (0 : Fin 2) * 8 + 1 * r.val = t.val * 8 + r.val; omega
  | ⟨1, _⟩ => show win0_3.index t (1 : Fin 2) * 1 + 1 * 0 = 0; omega

theorem emb4 (t : Fin cfg0.N) (j : S1x1.Idx) : ((cfg0.win 4).blk t).view.emb j = j := by
  obtain ⟨e0, e1⟩ := at4 t
  funext d; apply Fin.ext
  match d with
  | ⟨0, _⟩ => show win0_4.index t (0 : Fin 2) * 1 + 1 * (j 0).val = (j 0).val; omega
  | ⟨1, _⟩ => show win0_4.index t (1 : Fin 2) * 1 + 1 * (j 1).val = (j 1).val; omega

/-! ## The blocks -/

/-- A row of a point's block is the array's. -/
theorem row_block (t : Fin cfg0.N) (r : Fin 8) : row (iblk m c 0 t : FVec Ideal S8x56x32 .f32) r = row (sims m c) (rowAt t r) := by
  funext j
  show V m c main_arg0 (((cfg0.win 0).blk t).view.emb (ix3 r j.1 j.2 : S8x56x32.Idx)) = _
  rw [emb0]
  rfl

theorem nums_block (t : Fin cfg0.N) (r : Fin 8) : nums (iblk m c 2 t : FVec Ideal S8x56x32 .f32) r = nums (firsts m c) (rowAt t r) := by
  funext j
  have e : (iblk m c 2 t : FVec Ideal S8x56x32 .f32) (ix3 r j.1 j.2) = firsts m c (ix3 (rowAt t r) j.1 j.2) := by
    show V m c main_arg2 (((cfg0.win 2).blk t).view.emb (ix3 r j.1 j.2 : S8x56x32.Idx)) = _
    rw [emb2]
  unfold nums
  rw [e]

theorem own_block (t : Fin cfg0.N) (r : Fin 8) :
    Own (iblk m c 1 t : FVec Ideal S8x56x32 .f32) (iblk m c 3 t : FVec Ideal S8x1 .f32) r = Own (labels m c) (owns m c) (rowAt t r) := by
  funext j
  show (V m c main_arg1 (((cfg0.win 1).blk t).view.emb (ix3 r j.1 j.2 : S8x56x32.Idx))
    = V m c main_arg3 (((cfg0.win 3).blk t).view.emb (ix2 r 0 : S8x1.Idx))) = _
  rw [emb1, emb3]
  rfl

/-! ## The sum over the grid -/

/-- Point `t`'s part of the loss: the losses of its eight rows over the number of all rows. -/
def partAt (t : Fin cfg0.N) : EReal :=
  Ideal.div (∑ r : Fin 8, rowLoss (row (sims m c) (rowAt t r)) (nums (firsts m c) (rowAt t r)) (Own (labels m c) (owns m c) (rowAt t r))) rows

/-- The loss of all rows. -/
def loss : FVec Ideal S1x1 .f32 := fun _ => lossOf (sims m c) (labels m c) (firsts m c) (owns m c)

variable (hd : ∀ i, Apart bound (row (sims m c) i) (nums (firsts m c) i))

include hd in
/-- What a point computes from its blocks is its part of the loss. -/
theorem part_block (t : Fin cfg0.N) :
    part (k0_pay2 (F := Ideal) (iblk m c 2 t)) (k0_pay3 (F := Ideal) (iblk m c 3 t) (iblk m c 1 t)) (iblk m c 0 t) = partAt m c t := by
  rw [part_at (iblk m c 0 t) (iblk m c 1 t) (iblk m c 2 t) (iblk m c 3 t) (fun r => by rw [row_block, nums_block]; exact hd _)]
  unfold lossOf partAt
  simp only [row_block, nums_block, own_block]

/-- Adding a part at the only index. -/
theorem add_at (p : Ideal .f32) (x : Vec Ideal S1x1 .f32) : k0_pay1 (F := Ideal) p x (ix2 0 0) = (x (ix2 0 0) + p : EReal) := by
  unfold k0_pay1
  pointwise

include hd in
/-- After the last point the sum is the loss of all rows. -/
theorem sum_all (t : Fin cfg0.N) (ht : t.val + 1 = cfg0.N) :
    (outsAt0 m c t.val t.isLt (ix2 0 0) : EReal) = lossOf (sims m c) (labels m c) (firsts m c) (owns m c) := by
  have e := Pipeline.eq_sum_fin_of_reset_step_last (M := EReal) (fun n hn => outsAt0 m c n hn (ix2 0 0)) 128 0 (partAt m c)
    (fun t h0 => by
      rw [outsAt0_A m c t h0, out_A, add_at, part_block m c hd]
      refine congrArg (· + partAt m c t) ?_
      show Ideal.ofBits .f32 0x00000000#32 = 0
      simp [Ideal.ofBits, Ideal.ieee])
    (fun t h0 => by rw [outsAt0_B m c t h0, out_B, add_at, part_block m c hd])
    points.le t ht
  rw [e, zero_add]
  unfold lossOf
  rw [← sum_blocks, div_sum]
  exact Fintype.sum_equiv (finCongr points) _ _ fun _ => rfl

/-! ## The whole array -/

/-- What a point writes back. -/
theorem flushed4 (t : Fin cfg0.N) : (dats m 0 c).flushed 4 t = (cfg0.win 4).cut (grid0.coords t) (outsAt0 m c t.val t.isLt) := by
  show (cfg0.win 4).cut (grid0.coords t) ((dats m 0 c).after 4 t) = _
  rw [after0_4]

/-- The result has one index. -/
theorem only (j : S1x1.Idx) : j = ix2 0 0 := by
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  rfl

include hd in
/-- The point that writes back writes the loss. -/
theorem flushed4_eq (t : Fin cfg0.N) (hf : (cfg0.win 4).flush t = true) :
    (dats m 0 c).flushed 4 t = ((cfg0.win 4).blk t).view.read (Elt Ideal) (loss m c) := by
  have e := (flush0_4 t).1 hf
  have hN := t.isLt.trans_eq points
  rw [flushed4]
  funext j
  show outsAt0 m c t.val t.isLt j = lossOf (sims m c) (labels m c) (firsts m c) (owns m c)
  rw [only j]
  exact sum_all m c hd t ((by omega : t.val + 1 = 128).trans points.symm)

/-- The result's one entry is written back. -/
theorem covered4 (i : S1x1.Idx) : ∃ t : Fin cfg0.N, (cfg0.win 4).flush t = true ∧ i ∈ ((cfg0.win 4).blk t).view.set := by
  refine ⟨⟨127, (by decide : 127 < 128).trans_eq points.symm⟩, (flush0_4 _).2 rfl, ?_⟩
  have h := ((cfg0.win 4).blk ⟨127, (by decide : 127 < 128).trans_eq points.symm⟩).view.emb_mem_set i
  rwa [emb4] at h

include hd in
/-- After the grid the result holds the loss of all rows. -/
theorem final4 : (dats m 0 c).arrAt 4 cfg0.N = loss m c :=
  (dats m 0 c).arrAt_eq_of_cover 4 (loss m c) (fun t hf => flushed4_eq m c hd t hf) covered4

/-- Every run ends with the result's array as the grid leaves it and the arguments as they were. -/
theorem run : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.NearArr

end
-- ==== Proof.NearRef.lean ====
/- The reference's loss as a term, and what it holds: the mean over the rows of the logarithm of the sum of the weights of
   the first fifty-one columns, less that of the sum over those of them whose labels are the row's own. -/
module

public import proofs.«01_k».proof.Proof.NearSpec
public import proofs.«01_k».proof.Proof.Gen.Reference2Ideal.Run
public import Idealize.ShloMosaic.Lib.Pointwise
public import Idealize.ShloMosaic.Lib.WordCmp
public import Idealize.ShloMosaic.Lib.IndicatorCount

@[expose] public section

noncomputable section

namespace Cert.NearRef

open Idealize.ShloMosaic Cert.Reference2Ideal Cert.Reference2Ideal.Gen Cert.NearRank Cert.NearSpec

/-! ## The terms -/

/-- The columns' numbers. -/
def numbers (g : FVec Ideal S1024x56x32 .f32) : FVec Ideal S1024x56x32 .f32 :=
  addf g (broadcastInDim S1024x56x32 ![0, 1, 2] bcast_S1x1x32_S1024x56x32_0_1_2 (broadcastInDim S1x1x32 ![2] bcast_S32_S1x1x32_2 (sitofp .f32 (iotaInDim S32 32 0))))

/-- A row's columns along the last two axes. -/
def along {α : Type} (x : S1024x56x32.Idx → α) : S1024x56x32x56x32.Idx → α :=
  broadcastInDim S1024x56x32x56x32 ![0, 1, 2, 3, 4] bcast_S1024x1x1x56x32_S1024x56x32x56x32_0_1_2_3_4 (broadcastInDim S1024x1x1x56x32 ![0, 3, 4] bcast_S1024x56x32_S1024x1x1x56x32_0_3_4 x)

/-- A row's columns along the second and third axes. -/
def down {α : Type} (x : S1024x56x32.Idx → α) : S1024x56x32x56x32.Idx → α :=
  broadcastInDim S1024x56x32x56x32 ![0, 1, 2, 3, 4] bcast_S1024x56x32x1x1_S1024x56x32x56x32_0_1_2_3_4 (broadcastInDim S1024x56x32x1x1 ![0, 1, 2] bcast_S1024x56x32_S1024x56x32x1x1_0_1_2 x)

/-- How many columns come before each column. -/
def places (x n : FVec Ideal S1024x56x32 .f32) : IVec S1024x56x32 32 :=
  Host.reduce IntOp.addi (extui 32 (ori (cmpf .ogt (along x) (down x)) (andi (cmpf .oeq (along x) (down x)) (cmpf .olt (along n) (down n)))) natLt_1_32)
    (constantI S_ 32 0#32) reducesTo_S1024x56x32x56x32_S1024x56x32_d3_4 h_S_

/-- The columns at the first fifty-one places. -/
def near (x n : FVec Ideal S1024x56x32 .f32) : IVec S1024x56x32 1 :=
  cmpi .slt (places x n) (broadcastInDim S1024x56x32 ![] bcast_S_S1024x56x32 (constantI S_ 32 51#32))

/-- The columns whose labels are the rows' own. -/
def close (l : FVec Ideal S1024x56x32 .f32) (q : FVec Ideal S1024x1 .f32) : IVec S1024x56x32 1 :=
  cmpf .oeq l (broadcastInDim S1024x56x32 ![0, 1, 2] bcast_S1024x1x1_S1024x56x32_0_1_2 (broadcastInDim S1024x1x1 ![0, 1] bcast_S1024x1_S1024x1x1_0_1 q))

/-- The sum of the weights of the columns of a set. -/
def sums (s : IVec S1024x56x32 1) (x : FVec Ideal S1024x56x32 .f32) : FVec Ideal S1024 .f32 :=
  Host.reduceAdd (select s (Host.exp (Host.divf x (broadcastInDim S1024x56x32 ![] bcast_S_S1024x56x32 (constant S_ .f32 0x3D8F5C29#32)))) (broadcastInDim S1024x56x32 ![] bcast_S_S1024x56x32 (id (constant S_ .f32 0x00000000#32))))
    (constant S_ .f32 0x00000000#32) reducesTo_S1024x56x32_S1024_d1_2 h_S_

/-- The loss. -/
def loss (x l g : FVec Ideal S1024x56x32 .f32) (q : FVec Ideal S1024x1 .f32) : FVec Ideal S1x1 .f32 :=
  shapeCast _ (Host.divf (Host.reduceAdd (subf (Host.log (sums (near x (numbers g)) x)) (Host.log (sums (andi (near x (numbers g)) (close l q)) x)))
    (constant S_ .f32 0x00000000#32) reducesTo_S1024_S_d0 h_S_) (constant S_ .f32 0x44800000#32)) shapeCasts_S_S1x1

/-- The reference's result is this term. -/
theorem result_eq (m : (ℓ : Loc nD τ sig) → Buf (Elt Ideal) ℓ) (c : Dev nD) : Value.res_main_v40 (F := Ideal) m c
    = loss (m ((c.tc : Thread nD τ).loc main_arg0)) (m ((c.tc : Thread nD τ).loc main_arg1)) (m ((c.tc : Thread nD τ).loc main_arg2)) (m ((c.tc : Thread nD τ).loc main_arg3)) :=
  rfl

/-! ## What they hold -/

/-- The columns' numbers at a column. -/
theorem numbers_at (g : FVec Ideal S1024x56x32 .f32) (i : Fin 1024) (j : Cols) : numbers g (ix3 i j.1 j.2) = NearSpec.nums g i j := by
  pointwise [numbers]
  rfl

/-- The last two axes summed: the entries that stay at `i, a, b` are those with any last two coordinates. -/
theorem fiber (i : Fin 1024) (a : Fin 56) (b : Fin 32) (k : S1024x56x32x56x32.Idx) :
    reducesTo_S1024x56x32x56x32_S1024x56x32_d3_4.drop k = (ix3 i a b : S1024x56x32.Idx) ↔ ∃ p : Cols, (ix5 i a b p.1 p.2 : S1024x56x32x56x32.Idx) = k := by
  constructor
  · intro e
    refine ⟨(k 3, k 4), ?_⟩
    funext c
    apply Fin.ext
    match c with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨p, rfl⟩
    funext c
    apply Fin.ext
    match c with
    | ⟨0, _⟩ => rfl
    | ⟨1, _⟩ => rfl
    | ⟨2, _⟩ => rfl

/-- The sum of comparisons is a column's place. -/
theorem places_at (x n : FVec Ideal S1024x56x32 .f32) (i : Fin 1024) (j : Cols) :
    places x n (ix3 i j.1 j.2) = BitVec.ofNat 32 (place (row x i) (row n i) j) := by
  pointwise [places, along, down]
  rw [Finset.fold_filter_eq_fold_of_fiber IntOp.addi _ (fun p : Cols => (ix5 i j.1 j.2 p.1 p.2 : S1024x56x32x56x32.Idx))
    (fun _ _ e => Prod.ext (congrFun e 3) (congrFun e 4)) (fiber i j.1 j.2)]
  rw [IndicatorCount.fold_addi_setWidth_eq_card]
  congr 1
  unfold place
  congr 1
  ext k
  simp only [Finset.mem_filter, Finset.mem_univ, true_and, WordCmp.andi_ofBool, WordCmp.ori_ofBool, WordCmp.ofBool_eq_one_iff]
  simp only [Bool.or_eq_true, Bool.and_eq_true, decide_eq_true_eq]
  rfl

/-- The columns at the first fifty-one places. -/
theorem near_at (x n : FVec Ideal S1024x56x32 .f32) (i : Fin 1024) (j : Cols) :
    near x n (ix3 i j.1 j.2) = BitVec.ofBool (decide (place (row x i) (row n i) j < 51)) := by
  show IntOp.cmpi .slt (places x n (ix3 i j.1 j.2)) (51#32) = _
  rw [places_at]
  refine WordCmp.cmpi_slt_ofNat (lt_of_le_of_lt (Finset.card_le_univ _) ?_) (by norm_num)
  rw [Fintype.card_prod, Fintype.card_fin, Fintype.card_fin]
  norm_num

open Classical in
/-- The columns whose labels are the rows' own. -/
theorem close_at (l : FVec Ideal S1024x56x32 .f32) (q : FVec Ideal S1024x1 .f32) (i : Fin 1024) (j : Cols) :
    close l q (ix3 i j.1 j.2) = BitVec.ofBool (decide (Own l q i j)) := by
  pointwise [close]
  exact congrArg BitVec.ofBool (decide_eq_decide.2 Iff.rfl)

/-- A row's sum of weights over a set of columns. -/
theorem sums_at (s : IVec S1024x56x32 1) (x : FVec Ideal S1024x56x32 .f32) (i : Fin 1024) :
    sums s x (ix1 i) = ∑ j : Cols, Scalar.select (s (ix3 i j.1 j.2)) (weight (row x i j)) 0 := by
  pointwise [sums]
  rw [Fintype.sum_prod_type]
  refine Finset.sum_congr rfl fun a _ => Finset.sum_congr rfl fun b _ => ?_
  have z : id (constant (F := Ideal) S_ .f32 0#32) ix0 = (0 : EReal) := by
    show Ideal.ofBits .f32 0#32 = 0
    simp [Ideal.ofBits, Ideal.ieee]
  rw [z]
  rfl

/-- The term is the loss. -/
theorem loss_at (x l g : FVec Ideal S1024x56x32 .f32) (q : FVec Ideal S1024x1 .f32) : loss x l g q = fun _ => lossOf x l g q := by
  have hn : ∀ i, row (numbers g) i = NearSpec.nums g i := fun i => funext fun j => numbers_at g i j
  funext k
  obtain ⟨a, b, rfl⟩ : ∃ (a b : Fin 1), k = ix2 a b := ⟨k 0, k 1, eq_ix2 k⟩
  obtain rfl : a = 0 := Subsingleton.elim _ _
  obtain rfl : b = 0 := Subsingleton.elim _ _
  pointwise [loss]
  unfold lossOf
  refine congrArg₂ Ideal.div (Finset.sum_congr rfl fun i _ => ?_) rfl
  have h1 : sums (near x (numbers g)) x (ix1 i) = total (row x i) (NearSpec.nums g i) 51 := by
    rw [sums_at]
    refine Finset.sum_congr rfl fun j _ => ?_
    rw [near_at, hn, WordCmp.select_ofBool]
    simp only [decide_eq_true_eq]
  have h2 : sums (andi (near x (numbers g)) (close l q)) x (ix1 i) = share (row x i) (NearSpec.nums g i) (Own l q i) 51 := by
    rw [sums_at]
    refine Finset.sum_congr rfl fun j _ => ?_
    show Scalar.select (IntOp.andi (near x (numbers g) (ix3 i j.1 j.2)) (close l q (ix3 i j.1 j.2))) _ _ = _
    rw [near_at, hn, close_at, WordCmp.andi_ofBool, WordCmp.select_ofBool]
    by_cases hp : place (row x i) (NearSpec.nums g i) j < 51
    · by_cases ho : Own l q i j
      · simp only [hp, ho, decide_true, Bool.and_self, if_true]
      · simp only [hp, ho, decide_true, decide_false, Bool.and_false, if_true, if_false, Bool.false_eq_true]
    · simp only [hp, decide_false, Bool.false_and, if_false, Bool.false_eq_true]
  rw [h1, h2]
  rfl

end Cert.NearRef

end
-- ==== Proof.NearPre.lean ====
/- The precondition of the loss read at the columns of a row. -/
module

public import proofs.«01_k».proof.Proof.NearSpec
public import proofs.«01_k».proof.Proof.Gen.Pre_distinct
public import Idealize.ShloMosaic.Lib.WordCmp
public import Idealize.ShloMosaic.Lib.ReduceAll

@[expose] public section

noncomputable section

namespace Cert.NearPre

open Idealize.ShloMosaic Cert.NearRank Cert.NearSpec Cert.Pre_distinct

/-- Of arguments that satisfy the precondition, the columns of a row that are not masked differ in similarity or number, and
    their numbers are within the bound. -/
theorem apart (x l g : FVec Ideal S1024x56x32 .f32) (q : FVec Ideal S1024x1 .f32) (h : fn x l g q = fun _ => 1#1) (i : Fin 1024) :
    Apart bound (row x i) (nums g i) := by
  have e := congrFun h (fun a => a.elim0)
  obtain ⟨e1, e2⟩ := IntOp.andi_eq_one.1 e
  have a1 := fun (j k : Cols) => Host.reduce_andi_all (t := S_) _ _ _ _ _ e1 (ix5 i j.1 j.2 k.1 k.2)
  have a2 := fun (j : Cols) => Host.reduce_andi_all (t := S_) _ _ _ _ _ e2 (ix3 i j.1 j.2)
  pointwise at a1
  pointwise at a2
  constructor
  · intro j k hx hg hb
    by_contra hjk
    have hne : j.1.val * 32 + j.2.val ≠ k.1.val * 32 + k.2.val := fun he => hjk (Prod.ext (Fin.ext (by omega)) (Fin.ext (by omega)))
    have w := a1 j k
    rw [WordCmp.cmpi_ne_ofNat (by omega) (by omega), ofBits_bot] at w
    have c1 : decide (j.1.val * 32 + j.2.val ≠ k.1.val * 32 + k.2.val) = true := decide_eq_true hne
    have c2 : decide (x (ix3 i j.1 j.2) = x (ix3 i k.1 k.2)) = true := decide_eq_true hx
    have c3 := decide_eq_true hg
    have c4 : decide (⊥ < x (ix3 i j.1 j.2)) = true := decide_eq_true hb
    unfold nums at c3
    rw [c1, c2, c3, c4] at w
    exact absurd w (by decide)
  · intro j hb
    have w := a2 j
    rw [ofBits_bot] at w
    have c4 : decide (⊥ < x (ix3 i j.1 j.2)) = true := decide_eq_true hb
    rw [c4] at w
    by_contra hle
    have c5 := decide_eq_false hle
    unfold nums bound at c5
    rw [c5] at w
    exact absurd w (by decide)

end Cert.NearPre

end
-- ==== Proof.NearClaims.lean ====
/- The claims about the loss, one by one: the three frames, the named mask, and the equality of the kernel's result with the
   reference's. -/
module

public import proofs.«01_k».proof.Defs
public import proofs.«01_k».proof.Proof.NearArr
public import proofs.«01_k».proof.Proof.NearRef
public import proofs.«01_k».proof.Proof.NearPre
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_distinct
public import Idealize.ShloMosaic.Lib.Quiescent

@[expose] public section

noncomputable section

namespace Cert.NearClaims

open Idealize.ShloMosaic Idealize.SL.Sem Cert.NearRank Cert.NearSpec

/-- Every run of the kernel, from any memory, ends and leaves its arguments and semaphores as they were. -/
theorem frame_kernel : Cert.quiescent_Kernel2 := fun m ρ _ => Cert.Kernel2.Gen.frame m ρ

/-- The same of the idealized kernel. -/
theorem frame_ideal : Cert.quiescent_Kernel2Ideal := fun m ρ _ => Cert.Kernel2Ideal.Gen.frame m ρ

/-- The same of the idealized reference. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The named mask is the one rewritten constant, and it stands for minus infinity. -/
theorem preserves : Cert.preserves_Kernel2_Kernel2Ideal :=
  IdealRules.named_const.statement Cert.Kernel2Ideal.κ "mask" .f32 0xF149F2CA#32 ⊥ rfl

/-- Of arguments that agree, the kernel's loss is the reference's. -/
theorem algebraic : Cert.algebraic_Kernel2Ideal_Reference2Ideal_pre_distinct := by
  intro m ρ m' ρ' hpre hag
  have hd : ∀ c i, Apart bound (row (NearArr.sims m c) i) (nums (NearArr.firsts m c) i) :=
    fun c => NearPre.apart _ _ _ _ (hpre c)
  refine ⟨fun c => NearArr.loss m c, ?_, ?_⟩
  · refine (θ_run Cert.Kernel2Ideal.defs _ _).mono (fun r h c => ?_) (NearArr.run m ρ)
    obtain ⟨h0, h1⟩ := h c
    exact ⟨h0.trans (NearArr.final4 m c (hd c)), h1⟩
  · refine (θ_run Cert.Reference2Ideal.defs _ _).mono (fun r h c => ?_) (Cert.Reference2Ideal.Value.run (F := Ideal) m' ρ')
    obtain ⟨h0, h1⟩ := h c
    obtain ⟨a0, a1, a2, a3⟩ := hag c
    refine ⟨h0.trans ?_, h1⟩
    rw [NearRef.result_eq, NearRef.loss_at, a0, a1, a2, a3]
    rfl

end Cert.NearClaims

end
-- ==== Proof.PickStep.lean ====
/- What the choice of chunks computes from its input: fifty-one rounds, each writing the number of the best chunk that is left
   in every row into a column of the result and masking that chunk out; five more columns hold one number. -/
module

public import proofs.«01_k».proof.Proof.Gen.Kernel3Ideal.Frame
public import Idealize.ShloMosaic.Lib.Pipeline.Value
public import Idealize.ShloMosaic.Lib.Pointwise.Index
public import Idealize.ShloMosaic.Lib.Pipeline.ValueKit.Acc

@[expose] public section

set_option maxRecDepth 100000

noncomputable section

namespace Cert.PickStep

open Cert.Kernel3Ideal Cert.Kernel3Ideal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl

/-- The largest value of each row. -/
def top (x : FVec F S1024x3168 .f32) : FVec F S1024x1 .f32 :=
  shapeCast S1024x1 (multiReduction .maximumf [1] S1024 x 0xFF800000#32 reduces_S1024x3168_S1024 (.inl rfl) rfl) shapeCasts_S1024_S1024x1

/-- The least number of the chunks that hold it. -/
def least (x : FVec F S1024x3168 .f32) : FVec F S1024x1 .f32 :=
  shapeCast S1024x1 (multiReduction .minimumf [1] S1024
    (select (cmpf .oeq x (broadcastTo S1024x3168 (top x) broadcasts_S1024x1_S1024x3168)) (k0_pay3 (F := F)) (broadcast S1024x3168 (Scalar.ofBits .f32 0x4F6E6B28#32)))
    0x7F800000#32 reduces_S1024x3168_S1024 (.inl rfl) rfl) shapeCasts_S1024_S1024x1

/-- The values with that chunk masked out. -/
def cleared (x : FVec F S1024x3168 .f32) : FVec F S1024x3168 .f32 :=
  shapeCast S1024x3168 (select (cmpf .oeq (k0_pay3 (F := F)) (broadcastTo S1024x3168 (least x) broadcasts_S1024x1_S1024x3168))
    (broadcast S1024x3168 (Named.named κ "mask" 0xF149F2CA#32)) x) shapeCasts_S1024x3168_S1024x3168

/-- What is left after `n` rounds. -/
def left (x : FVec F S1024x3168 .f32) : Nat → FVec F S1024x3168 .f32
  | 0 => k0_pay2 x
  | n + 1 => cleared (left x n)

/-- The number that round `n` writes. -/
def pick (x : FVec F S1024x3168 .f32) (n : Nat) : FVec F S1024x1 .f32 :=
  shapeCast S1024x1 (shapeCast S1024 (least (left x n)) shapeCasts_S1024x1_S1024) shapeCasts_S1024_S1024x1

/-- The number of the filling columns. -/
def fill : FVec F S1024x1 .f32 := k0_pay175

/-- Column `k` of the result. -/
def column (x : FVec F S1024x3168 .f32) (k : Nat) : FVec F S1024x1 .f32 := if k < 51 then pick x k else fill

/-- The result. -/
def picks (x : FVec F S1024x3168 .f32) : FVec F S1024x56 .f32 := fun y => column x (y 1).val (ix2 (y 0) 0)

/-- A load of the whole scratch reads what was stored last. -/
theorem readCov_whole {sig : RefSig} {κ : Kind} {sp : Space} (v : View sig κ sp S1024x3168 .f32) (inb inb')
    (w : S1024x3168.Idx → Elt F .f32) (L : List (View.Piece (Elt F) S1024x3168 .f32)) :
    v.readCov ((⟨Rect.unit ![0, 0] (no_index S1024x3168.size) inb, w⟩ : View.Piece (Elt F) S1024x3168 .f32) :: L)
      (Rect.unit ![0, 0] (no_index S1024x3168.size) inb').toLoadRect = w :=
  View.readCov_cons_unit_lit' v inb inb' w L (fun a => by fin_cases a <;> rfl) (fun a => by fin_cases a <;> rfl)

/-- A store of column `k` stores that column of the result. -/
theorem stored (x : FVec F S1024x3168 .f32) (k : Nat) (inb) (w : FVec F S1024x1 .f32) (h : w = column x k) (z : S1024x1.Idx) :
    w z = picks x ((Rect.unit (s := S1024x56) ![0, k] S1024x1.size inb).emb z) := by
  subst h
  have h1 : (z 1).val < 1 := (z 1).isLt
  have e : ((Rect.unit (s := S1024x56) ![0, k] S1024x1.size inb).emb z 1).val = k := by
    rw [Rect.emb_apply]
    show k + 1 * (z 1).val = k
    omega
  have e' : ix2 ((Rect.unit (s := S1024x56) ![0, k] S1024x1.size inb).emb z 0) 0 = z := by
    funext a; apply Fin.ext
    match a with
    | ⟨0, _⟩ =>
      show ((Rect.unit (s := S1024x56) ![0, k] S1024x1.size inb).emb z 0).val = (z 0).val
      rw [Rect.emb_apply]
      show 0 + 1 * (z 0).val = (z 0).val
      omega
    | ⟨1, _⟩ => show 0 = (z 1).val; omega
  unfold picks
  rw [e]
  exact congrArg (column x k) e'.symm

/-- The same of a round's column. -/
theorem stored_pick (x : FVec F S1024x3168 .f32) (k : Nat) (hk : k < 51) (inb) (w : FVec F S1024x1 .f32) (h : w = pick x k) :
    ∀ z, w z = picks x ((Rect.unit (s := S1024x56) ![0, k] S1024x1.size inb).emb z) :=
  stored x k inb w (h.trans (if_pos hk).symm)

/-- The same of a filling column. -/
theorem stored_fill (x : FVec F S1024x3168 .f32) (k : Nat) (hk : ¬k < 51) (inb) (w : FVec F S1024x1 .f32) (h : w = fill) :
    ∀ z, w z = picks x ((Rect.unit (s := S1024x56) ![0, k] S1024x1.size inb).emb z) :=
  stored x k inb w (h.trans (if_neg hk).symm)

/-- Before the first round the input is left. -/
theorem left_zero (x : FVec F S1024x3168 .f32) : left x 0 = k0_pay2 x := rfl

/-- A round masks one chunk of every row. -/
theorem left_succ {x a : FVec F S1024x3168 .f32} {n : Nat} (h : left x n = a) : left x (n + 1) =
    shapeCast S1024x3168 (select (cmpf .oeq (k0_pay3 (F := F)) (broadcastTo S1024x3168 (shapeCast S1024x1 (multiReduction .minimumf [1] S1024
      (select (cmpf .oeq a (broadcastTo S1024x3168 (shapeCast S1024x1 (multiReduction .maximumf [1] S1024 a 0xFF800000#32 reduces_S1024x3168_S1024 (.inl rfl) rfl)
        shapeCasts_S1024_S1024x1) broadcasts_S1024x1_S1024x3168)) (k0_pay3 (F := F)) (broadcast S1024x3168 (Scalar.ofBits .f32 0x4F6E6B28#32)))
      0x7F800000#32 reduces_S1024x3168_S1024 (.inl rfl) rfl) shapeCasts_S1024_S1024x1) broadcasts_S1024x1_S1024x3168))
      (broadcast S1024x3168 (Named.named κ "mask" 0xF149F2CA#32)) a) shapeCasts_S1024x3168_S1024x3168 :=
  congrArg cleared h

/-- A round writes the least number of the best chunks. -/
theorem pick_eq {x a : FVec F S1024x3168 .f32} {n : Nat} (h : left x n = a) : pick x n =
    shapeCast S1024x1 (shapeCast S1024 (shapeCast S1024x1 (multiReduction .minimumf [1] S1024
      (select (cmpf .oeq a (broadcastTo S1024x3168 (shapeCast S1024x1 (multiReduction .maximumf [1] S1024 a 0xFF800000#32 reduces_S1024x3168_S1024 (.inl rfl) rfl)
        shapeCasts_S1024_S1024x1) broadcasts_S1024x1_S1024x3168)) (k0_pay3 (F := F)) (broadcast S1024x3168 (Scalar.ofBits .f32 0x4F6E6B28#32)))
      0x7F800000#32 reduces_S1024x3168_S1024 (.inl rfl) rfl) shapeCasts_S1024_S1024x1) shapeCasts_S1024x1_S1024) shapeCasts_S1024_S1024x1 := by
  rw [← h]
  rfl

variable (c : Dev nD)
variable (arg0 : Memref sig .tc .vmem S1024x3168 .f32) (harg0 : arg0.IsWhole)
variable (arg1 : Memref sig .tc .vmem S1024x56 .f32) (harg1 : arg1.IsWhole)
variable (arg2 : Memref sig .tc .vmem S1024x3168 .f32) (harg2 : arg2.IsWhole)
variable (x0 : Vec F S1024x3168 .f32)

attribute [local irreducible] left in
set_option maxHeartbeats 1000000 in
/-- The body leaves the stated columns in the result. -/
theorem out_A : out0_A_1 c arg0 harg0 arg1 harg1 arg2 harg2 x0 = picks x0 := by
  have hc := cover0_A_1 c arg0 harg0 arg1 harg1 arg2 harg2 x0
  unfold out0_A_1
  rw [View.read_writes_junk_eq_canon]
  funext y
  refine View.canon_apply_of_pieces (picks x0) _ ?_ y (hc y)
  unfold kernelRun0_A
  dsimp only
  sl_unfold_words
  simp only [readCov_whole, View.readAt_eq_ld, harg0.read_unread, View.ld_unit_zero (S := S1024x3168) hz2]
  simp only [k0_pay1, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170, k0_pay171, k0_pay172,
    k0_pay173, k0_pay174, k0_pay175, k0_pay176, k0_pay177, k0_pay178, k0_pay179]
  iterate 5
    refine List.forall_mem_cons.2 ⟨stored_fill x0 _ (by decide) (by decide) _ ?_, ?_⟩
    · rfl
  iterate 51
    refine List.forall_mem_cons.2 ⟨stored_pick x0 _ (by decide) (by decide) _ ?_, ?_⟩
    · symm
      dsimp only
      with_reducible apply pick_eq ?_
      repeat with_reducible apply left_succ ?_
      exact left_zero x0
  exact fun _ h => absurd h List.not_mem_nil

end Cert.PickStep

end
-- ==== Proof.PickSpec.lean ====
/- The choice of chunks in plain mathematics: a row's chunks are ordered by their maxima, the larger first, and chunks with
   equal maxima by their numbers; of a row with fifty-one chunks that are not masked, the chosen ones are those at the first
   fifty-one places, in order. -/
module

public import proofs.«01_k».proof.Proof.NearRank
public import proofs.«01_k».proof.Proof.NearSpec
public import Idealize.ShloMosaic.Lib.Pointwise
public import Idealize.ShloMosaic.Lib.WordCmp

@[expose] public section

noncomputable section

namespace Cert.PickSpec

open Idealize.ShloMosaic Cert.NearRank Cert.NearSpec

/-- The chunks of a row. -/
abbrev Chunks : Type := Fin 3168

/-- Row `i` of the chunk maxima. -/
def line (x : FVec Ideal ⟨2, ![1024, 3168]⟩ .f32) (i : Fin 1024) : Chunks → EReal := fun j => x (ix2 i j)

/-- The chunks' numbers. -/
def num (j : Chunks) : EReal := ((j.val : ℝ) : EReal)

/-- A chunk's number as an f32. -/
theorem sitofp_num (j : Chunks) : FloatOps.sitofp (F := Ideal) .f32 (BitVec.ofNat 32 j.val) = num j := by
  show (((BitVec.ofNat 32 j.val).toInt : ℝ) : EReal) = _
  rw [WordCmp.toInt_ofNat_of_lt (by omega)]
  rfl

theorem num_lt {j k : Chunks} : num j < num k ↔ j.val < k.val := by
  unfold num
  rw [EReal.coe_lt_coe_iff, Nat.cast_lt]

theorem num_inj {j k : Chunks} (h : num j = num k) : j = k := by
  unfold num at h
  rw [EReal.coe_eq_coe_iff, Nat.cast_inj] at h
  exact Fin.ext h

theorem bound_eq : bound = ((4000000000 : ℝ) : EReal) := by
  unfold bound
  simp [Ideal.ofBits, Ideal.ieee]
  norm_num
  rw [← EReal.coe_pow, ← EReal.coe_mul]
  norm_num

theorem num_le (j : Chunks) : num j ≤ bound := by
  rw [bound_eq]
  unfold num
  rw [EReal.coe_le_coe_iff]
  have : (j.val : ℝ) ≤ 3168 := by exact_mod_cast j.isLt.le
  linarith

/-- Chunks have different numbers, none above the bound. -/
theorem apart (x : Chunks → EReal) : Apart bound x num := ⟨fun _ _ _ h _ => num_inj h, fun j _ => num_le j⟩

/-- At least fifty-one chunks are not masked. -/
def Enough (x : Chunks → EReal) : Prop := 51 ≤ (Finset.univ.filter fun j => ⊥ < x j).card

/-- Then each of the first fifty-one places is taken by a chunk that is not masked. -/
theorem exists_at {x : Chunks → EReal} (h : Enough x) {n : Nat} (hn : n < 51) : ∃ b, ⊥ < x b ∧ place x num b = n := by
  rcases some_at (apart x) n with hm | hb
  · exfalso
    have hc : (Finset.univ.filter fun j => ⊥ < x j).card ≤ (Finset.range n).card := by
      refine Finset.card_le_card_of_injOn (place x num) (fun j hj => ?_) (fun i hi j _ e => place_inj (apart x) (Finset.mem_filter.1 hi).2 e)
      have hj' := (Finset.mem_filter.1 hj).2
      rw [Finset.coe_range, Set.mem_Iio]
      by_contra hl
      exact absurd (hm j (not_lt.1 hl)) hj'.ne'
    rw [Finset.card_range] at hc
    unfold Enough at h
    omega
  · exact hb

/-- The number of the chunk at place `n`. -/
def chosen (x : Chunks → EReal) (n : Nat) : EReal := ∑ j, if place x num j = n then num j else 0

/-- Only one chunk is at a place that a chunk that is not masked takes. -/
theorem chosen_eq {x : Chunks → EReal} {n : Nat} {b : Chunks} (hb : ⊥ < x b) (hn : place x num b = n) : chosen x n = num b := by
  unfold chosen
  rw [Finset.sum_eq_single b]
  · exact if_pos hn
  · intro j _ hj
    exact if_neg fun e => hj (place_inj (apart x) hb (hn.trans e.symm)).symm
  · exact fun h => absurd (Finset.mem_univ _) h

/-- The number of the filling columns. -/
def filler : EReal := Ideal.ofBits .f32 0x45435000#32

/-- The chosen chunks of every row, then the filling columns. -/
def ids (x : FVec Ideal ⟨2, ![1024, 3168]⟩ .f32) : FVec Ideal ⟨2, ![1024, 56]⟩ .f32 :=
  fun y => if (y 1).val < 51 then chosen (line x (y 0)) (y 1).val else filler

end Cert.PickSpec

end
-- ==== Proof.PickBlock.lean ====
/- The columns the kernel writes: round `n` writes the number of the chunk at place `n`. -/
module

public import proofs.«01_k».proof.Proof.PickStep
public import proofs.«01_k».proof.Proof.PickSpec

@[expose] public section

noncomputable section

namespace Cert.PickBlock

open Cert.Kernel3Ideal Cert.Kernel3Ideal.Gen Cert.PickStep Cert.NearRank Cert.NearSpec Cert.PickSpec Idealize.ShloMosaic

variable (x : FVec Ideal S1024x3168 .f32) (i : Fin 1024)

/-- The numbers the kernel gives the lanes. -/
theorem lane_at (j : Chunks) : k0_pay3 (F := Ideal) (ix2 i j) = num j := by
  rw [← sitofp_num]
  pointwise [k0_pay3]

/-- The largest value of a row. -/
theorem top_at : top x (ix2 i 0) = best (line x i) := by
  pointwise [top]
  rw [ofBits_bot]
  rfl

open Classical in
/-- The least number of the lanes that hold it. -/
theorem least_at : least x (ix2 i 0) = first bound num (line x i) := by
  pointwise [least]
  rw [ofBits_top]
  unfold first
  refine Finset.fold_congr fun j _ => ?_
  rw [lane_at, top_at]
  rfl

open Classical in
/-- A choice by equality. -/
theorem select_eq (a b u v : Ideal .f32) :
    Scalar.select (FloatOps.cmpf (F := Ideal) .oeq a b) u v = if (a : EReal) = b then u else v := by
  show Scalar.select (BitVec.ofBool (decide ((a : EReal) = b))) u v = _
  rw [WordCmp.select_ofBool]
  simp only [decide_eq_true_eq]

theorem select_at (c : IVec S1024x3168 1) (a b : FVec Ideal S1024x3168 .f32) (k : S1024x3168.Idx) :
    select c a b k = Scalar.select (c k) (a k) (b k) := rfl

theorem cmpf_at (a b : FVec Ideal S1024x3168 .f32) (k : S1024x3168.Idx) :
    cmpf .oeq a b k = FloatOps.cmpf (F := Ideal) .oeq (a k) (b k) := rfl

/-- The named mask is minus infinity. -/
theorem mask_at (k : S1024x3168.Idx) :
    (broadcast S1024x3168 (Named.named κ "mask" 0xF149F2CA#32) : FVec Ideal S1024x3168 .f32) k = (⊥ : EReal) := rfl

open Classical in
/-- The row with one lane masked out. -/
theorem cleared_at (j : Chunks) : cleared x (ix2 i j) = if num j = first bound num (line x i) then ⊥ else line x i j := by
  have e : broadcastTo S1024x3168 (least x) broadcasts_S1024x1_S1024x3168 (ix2 i j) = least x (ix2 i 0) := by
    pointwise []
  unfold cleared
  rw [shapeCast_self, select_at, cmpf_at, e, lane_at, least_at, mask_at, select_eq]
  rfl

open Classical in
/-- What is left after `n` rounds. -/
theorem left_at (h : Enough (line x i)) (n : Nat) (hn : n ≤ 51) : line (left x n) i = after (line x i) num n := by
  induction n with
  | zero =>
    funext j
    refine Eq.trans ?_ (if_neg (Nat.not_lt_zero _)).symm
    show k0_pay2 x (ix2 i j) = x (ix2 i j)
    pointwise [k0_pay2]
  | succ n ih =>
    obtain ⟨b, hb, hp⟩ := exists_at h (Nat.lt_of_succ_le hn)
    funext j
    show cleared (left x n) (ix2 i j) = _
    rw [cleared_at, ih (by omega), first_at (apart _) hb hp, ← after_succ (apart _) n j]
    refine if_congr ?_ rfl rfl
    rw [taken_at (apart _) hb hp]
    exact ⟨num_inj, congrArg num⟩

/-- What round `n` writes. -/
theorem pick_at (h : Enough (line x i)) (n : Nat) (hn : n < 51) : pick x n (ix2 i 0) = chosen (line x i) n := by
  obtain ⟨b, hb, hp⟩ := exists_at h hn
  have e : pick x n (ix2 i 0) = least (left x n) (ix2 i 0) := by
    pointwise [pick]
  rw [e, least_at, left_at x i h n hn.le, first_at (apart _) hb hp, chosen_eq hb hp]

/-- The whole result. -/
theorem picks_at (h : ∀ i, Enough (line x i)) : picks x = ids x := by
  funext y
  show column x (y 1).val (ix2 (y 0) 0) = ids x y
  unfold column ids
  by_cases hk : (y 1).val < 51
  · rw [if_pos hk, if_pos hk]
    exact pick_at x (y 0) (h _) _ hk
  · rw [if_neg hk, if_neg hk]
    show fill (F := Ideal) (ix2 (y 0) 0) = filler
    pointwise [fill, k0_pay175]
    rfl

end Cert.PickBlock

end
-- ==== Proof.PickRef.lean ====
/- The reference's numbers as a term, and what it holds: of every row the numbers of the chunks at the first fifty-one places,
   then the filling columns. -/
module

public import proofs.«01_k».proof.Proof.PickSpec
public import proofs.«01_k».proof.Proof.Gen.Reference3Ideal.Run
public import Idealize.ShloMosaic.Lib.Pointwise
public import Idealize.ShloMosaic.Lib.WordCmp
public import Idealize.ShloMosaic.Lib.IndicatorCount
public import Idealize.ShloMosaic.Lib.Pipeline.Value

@[expose] public section

noncomputable section

namespace Cert.PickRef

open Idealize.ShloMosaic Cert.Reference3Ideal Cert.Reference3Ideal.Gen Cert.NearRank Cert.NearSpec Cert.PickSpec

/-! ## The terms -/

/-- The chunk maxima as rows. -/
def rows (a : FVec Ideal S99x1024x32 .f32) : FVec Ideal S1024x3168 .f32 :=
  shapeCast _ (transpose S1024x99x32 [1, 0, 2] a transposes_S99x1024x32_S1024x99x32_1_0_2) shapeCasts_S1024x99x32_S1024x3168

/-- A row's chunks along the last axis. -/
def along (x : FVec Ideal S1024x3168 .f32) : FVec Ideal S1024x3168x3168 .f32 :=
  broadcastInDim S1024x3168x3168 ![0, 1, 2] bcast_S1024x1x3168_S1024x3168x3168_0_1_2 (broadcastInDim S1024x1x3168 ![0, 2] bcast_S1024x3168_S1024x1x3168_0_2 x)

/-- A row's chunks along the middle axis. -/
def down (x : FVec Ideal S1024x3168 .f32) : FVec Ideal S1024x3168x3168 .f32 :=
  broadcastInDim S1024x3168x3168 ![0, 1, 2] bcast_S1024x3168x1_S1024x3168x3168_0_1_2 (broadcastInDim S1024x3168x1 ![0, 1] bcast_S1024x3168_S1024x3168x1_0_1 x)

/-- Whether the chunk along the last axis lies before the one along the middle axis. -/
def earlier : IVec S1024x3168x3168 1 :=
  broadcastInDim S1024x3168x3168 ![0, 1, 2] bcast_S1x3168x3168_S1024x3168x3168_0_1_2
    (cmpi .slt (broadcastInDim S1x3168x3168 ![0, 1, 2] bcast_S1x1x3168_S1x3168x3168_0_1_2 (broadcastInDim S1x1x3168 ![2] bcast_S3168_S1x1x3168_2 (iotaInDim S3168 32 0)))
      (broadcastInDim S1x3168x3168 ![0, 1, 2] bcast_S1x3168x1_S1x3168x3168_0_1_2 (broadcastInDim S1x3168x1 ![1] bcast_S3168_S1x3168x1_1 (iotaInDim S3168 32 0))))

/-- How many chunks come before each chunk. -/
def places (x : FVec Ideal S1024x3168 .f32) : IVec S1024x3168 32 :=
  Host.reduce IntOp.addi (extui 32 (ori (cmpf .ogt (along x) (down x)) (andi (cmpf .oeq (along x) (down x)) earlier)) natLt_1_32)
    (constantI S_ 32 0#32) reducesTo_S1024x3168x3168_S1024x3168_d2 h_S_

/-- Which chunk is at which of the first fifty-one places. -/
def here (x : FVec Ideal S1024x3168 .f32) : IVec S1024x51x3168 1 :=
  cmpi .eq (broadcastInDim S1024x51x3168 ![0, 1, 2] bcast_S1024x1x3168_S1024x51x3168_0_1_2 (broadcastInDim S1024x1x3168 ![0, 2] bcast_S1024x3168_S1024x1x3168_0_2 (places x)))
    (broadcastInDim S1024x51x3168 ![0, 1, 2] bcast_S1x51x1_S1024x51x3168_0_1_2 (broadcastInDim S1x51x1 ![1] bcast_S51_S1x51x1_1 (iotaInDim S51 32 0)))

/-- The numbers of the chunks at the first fifty-one places. -/
def firsts (x : FVec Ideal S1024x3168 .f32) : FVec Ideal S1024x51 .f32 :=
  Host.reduceAdd (select (here x)
      (broadcastInDim S1024x51x3168 ![0, 1, 2] bcast_S1x1x3168_S1024x51x3168_0_1_2 (broadcastInDim S1x1x3168 ![2] bcast_S3168_S1x1x3168_2 (sitofp .f32 (iotaInDim S3168 32 0))))
      (broadcastInDim S1024x51x3168 ![] bcast_S_S1024x51x3168 (id (constant S_ .f32 0x00000000#32))))
    (constant S_ .f32 0x00000000#32) reducesTo_S1024x51x3168_S1024x51_d2 h_S_

/-- The reference's result. -/
def result (x : FVec Ideal S1024x3168 .f32) : FVec Ideal S1024x56 .f32 :=
  concatenate S1024x56 1 [⟨S1024x51, firsts x⟩, ⟨S1024x5, broadcastInDim S1024x5 ![] bcast_S_S1024x5 (constant S_ .f32 0x45435000#32)⟩]
    concatenates_S1024x51_S1024x5_S1024x56_d1

/-! ## What they hold -/

variable (x : FVec Ideal S1024x3168 .f32) (i : Fin 1024)

/-- Chunk `k` lies before chunk `j`. -/
theorem earlier_at (j k : Chunks) : earlier (ix3 i j k) = BitVec.ofBool (decide (num k < num j)) := by
  have e : earlier (ix3 i j k) = IntOp.cmpi .slt (BitVec.ofNat 32 k.val) (BitVec.ofNat 32 j.val) := by
    pointwise [earlier]
  rw [e, WordCmp.cmpi_slt_ofNat (by omega) (by omega)]
  exact congrArg BitVec.ofBool (decide_eq_decide.2 num_lt.symm)

/-- The last axis summed: the entries that stay at `i, j` are those with any last coordinate. -/
theorem fiber (j : Chunks) (k : S1024x3168x3168.Idx) :
    reducesTo_S1024x3168x3168_S1024x3168_d2.drop k = (ix2 i j : S1024x3168.Idx) ↔ ∃ p : Chunks, (ix3 i j p : S1024x3168x3168.Idx) = k := by
  constructor
  · intro e
    refine ⟨k 2, ?_⟩
    funext c
    apply Fin.ext
    match c with
    | ⟨0, _⟩ => exact (congrArg Fin.val (congrFun e 0)).symm
    | ⟨1, _⟩ => exact (congrArg Fin.val (congrFun e 1)).symm
    | ⟨2, _⟩ => rfl
  · rintro ⟨p, rfl⟩
    funext c
    apply Fin.ext
    match c with
    | ⟨0, _⟩ => rfl
    | ⟨1, _⟩ => rfl

/-- The sum of comparisons is a chunk's place. -/
theorem places_at (j : Chunks) : places x (ix2 i j) = BitVec.ofNat 32 (place (line x i) num j) := by
  pointwise [places, along, down]
  simp only [earlier_at]
  rw [IndicatorCount.fold_addi_setWidth_eq_card]
  congr 1
  unfold place
  congr 1
  ext k
  simp only [Finset.mem_filter, Finset.mem_univ, true_and, WordCmp.andi_ofBool, WordCmp.ori_ofBool, WordCmp.ofBool_eq_one_iff]
  simp only [Bool.or_eq_true, Bool.and_eq_true, decide_eq_true_eq]
  exact or_congr decide_eq_true_iff (and_congr decide_eq_true_iff Iff.rfl)

/-- The chunk at a place. -/
theorem here_at (n : Fin 51) (j : Chunks) : here x (ix3 i n j) = BitVec.ofBool (decide (place (line x i) num j = n.val)) := by
  have e : here x (ix3 i n j) = IntOp.cmpi .eq (places x (ix2 i j)) (BitVec.ofNat 32 n.val) := by
    pointwise [here]
  have hp : place (line x i) num j ≤ 3168 := (Finset.card_le_univ _).trans (by rw [Fintype.card_fin])
  rw [e, places_at]
  exact WordCmp.cmpi_eq_ofNat (by omega) (by omega)

/-- The numbers. -/
theorem firsts_at (n : Fin 51) : firsts x (ix2 i n) = chosen (line x i) n.val := by
  pointwise [firsts]
  unfold chosen
  refine Finset.sum_congr rfl fun j _ => ?_
  rw [here_at, WordCmp.select_ofBool, sitofp_num]
  have z : id (constant (F := Ideal) S_ .f32 0#32) ix0 = (0 : EReal) := by
    show Ideal.ofBits .f32 0#32 = 0
    simp [Ideal.ofBits, Ideal.ieee]
  simp only [decide_eq_true_eq, z]

/-- The term is the chosen chunks' numbers. -/
theorem result_at : result x = ids x := by
  funext y
  obtain ⟨i, k, rfl⟩ : ∃ (i : Fin 1024) (k : Fin 56), y = ix2 i k := ⟨y 0, y 1, eq_ix2 y⟩
  have e : ids x (ix2 i k) = if k.val < 51 then chosen (line x i) k.val else filler := rfl
  rw [e]
  by_cases hk : k.val < 51
  · rw [if_pos hk, ← firsts_at x i ⟨k.val, hk⟩]
    refine concatenate_pair_apply_left (t := S1024x56) (s₁ := S1024x51) (s₂ := S1024x5) 1 _ _ _ (ix2 i k) rfl (ix2 i (⟨k.val, hk⟩ : Fin 51) : S1024x51.Idx) fun b => ?_
    match b with
    | ⟨0, _⟩ => rfl
    | ⟨1, _⟩ => rfl
  · rw [if_neg hk]
    refine (concatenate_pair_apply_right (t := S1024x56) (s₁ := S1024x51) (s₂ := S1024x5) 1 _ _ _ (ix2 i k) rfl rfl (ix2 i (⟨k.val - 51, by omega⟩ : Fin 5) : S1024x5.Idx) (fun b hb => ?_) ?_).trans rfl
    · match b, hb with
      | ⟨0, _⟩, _ => rfl
      | ⟨1, _⟩, hb => exact absurd rfl hb
    · show k.val - 51 + 51 = k.val
      omega

end Cert.PickRef

end
-- ==== Proof.PickArr.lean ====
/- The chosen chunks after the call: its one grid point reads the whole input, which the host has laid out as rows, and writes
   the whole result. -/
module

public import proofs.«01_k».proof.Proof.PickBlock
public import proofs.«01_k».proof.Proof.PickRef
public import Idealize.ShloMosaic.Lib.Pipeline.Value

@[expose] public section

set_option maxRecDepth 16384

noncomputable section

namespace Cert.PickArr

open Cert.Kernel3Ideal Cert.Kernel3Ideal.Gen Cert.PickSpec Cert.PickStep Cert.PickBlock Idealize.ShloMosaic Idealize.ShloMosaic.TcCoe Idealize.SL.Sem

variable (m : (ℓ : Loc nD τ sig) → Buf (Elt Ideal) ℓ) (ρ : Dev nD → PrngReg) (c : Dev nD)

/-- The chunk maxima. -/
abbrev maxima : FVec Ideal S99x1024x32 .f32 := m ((c : Thread nD τ).loc main_arg0)

/-- The call gets them as rows. -/
theorem V_rows : (V m c main_v1 : FVec Ideal S1024x3168 .f32) = PickRef.rows (maxima m c) := by
  show StableHlo.after hostOps0 _ (Proc.devRef .tc main_v1) = _
  after_results
  rfl

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)

theorem emb0 (t : Fin cfg0.N) (j : S1024x3168.Idx) : ((cfg0.win 0).blk t).view.emb j = j := by
  obtain ⟨e0, e1⟩ := at0 t
  funext d; apply Fin.ext
  match d with
  | ⟨0, _⟩ => show win0_0.index t (0 : Fin 2) * 1024 + 1 * (j 0).val = (j 0).val; omega
  | ⟨1, _⟩ => show win0_0.index t (1 : Fin 2) * 3168 + 1 * (j 1).val = (j 1).val; omega

theorem emb1 (t : Fin cfg0.N) (j : S1024x56.Idx) : ((cfg0.win 1).blk t).view.emb j = j := by
  obtain ⟨e0, e1⟩ := at1 t
  funext d; apply Fin.ext
  match d with
  | ⟨0, _⟩ => show win0_1.index t (0 : Fin 2) * 1024 + 1 * (j 0).val = (j 0).val; omega
  | ⟨1, _⟩ => show win0_1.index t (1 : Fin 2) * 56 + 1 * (j 1).val = (j 1).val; omega

/-- The block is the whole input. -/
theorem block0 (t : Fin cfg0.N) : (iblk m c 0 t : FVec Ideal S1024x3168 .f32) = PickRef.rows (maxima m c) := by
  funext j
  show V m c main_v1 (((cfg0.win 0).blk t).view.emb j) = _
  rw [emb0]
  exact congrFun (V_rows m c) j

/-- The chosen chunks' numbers. -/
def chosenIds : FVec Ideal S1024x56 .f32 := ids (PickRef.rows (maxima m c))

variable (h : ∀ i, Enough (line (PickRef.rows (maxima m c)) i))

include h in
/-- The point leaves them in its block. -/
theorem after_eq (t : Fin cfg0.N) : outsAt0 m c t = chosenIds m c := by
  unfold outsAt0
  rw [out_A, block0, picks_at _ h]
  rfl

/-- What the point writes back. -/
theorem flushed1 (t : Fin cfg0.N) : (dats m 0 c).flushed 1 t = (cfg0.win 1).cut (grid0.coords t) (outsAt0 m c t) := by
  show (cfg0.win 1).cut (grid0.coords t) ((dats m 0 c).after 1 t) = _
  rw [after0_1]

include h in
/-- It writes back the chosen chunks' numbers. -/
theorem flushed1_eq (t : Fin cfg0.N) :
    (dats m 0 c).flushed 1 t = ((cfg0.win 1).blk t).view.read (Elt Ideal) (chosenIds m c) := by
  rw [flushed1, after_eq m c h]
  funext j
  show chosenIds m c j = chosenIds m c (((cfg0.win 1).blk t).view.emb j)
  rw [emb1]

/-- The whole result is written back. -/
theorem covered1 (i : S1024x56.Idx) : ∃ t : Fin cfg0.N, (cfg0.win 1).flush t = true ∧ i ∈ ((cfg0.win 1).blk t).view.set := by
  refine ⟨t0_0, flush0_1 _, ?_⟩
  have e := ((cfg0.win 1).blk t0_0).view.emb_mem_set i
  rwa [emb1] at e

include h in
/-- After the call the result holds the chosen chunks' numbers. -/
theorem final1 : (dats m 0 c).arrAt 1 cfg0.N = chosenIds m c :=
  (dats m 0 c).arrAt_eq_of_cover 1 (chosenIds m c) (fun t _ => flushed1_eq m c h t) covered1

/-- Every run ends with the result's array as the call leaves it and the argument as it was. -/
theorem run : θ_run defs (onTc (τ := τ) (main (F := Ideal))) ⟨m, fun _ => 0, ρ⟩ fun r => ∀ c : Dev nD,
      r.2.mem ((c : Thread nD τ).loc main_v2) = (dats m 0 c).arrAt 1 cfg0.N
      ∧ r.2.mem ((c : Thread nD τ).loc main_arg0) = m ((c : Thread nD τ).loc main_arg0) :=
  (θ_run defs _ _).mono (fun r h c => ⟨(h c).1 1,
      ((h c).2 main_arg0 (Pipeline.mem_restRefs_of main_arg0 (by decide) (by decide))).trans (V_main_arg0 m c)⟩)
    (run_main m ρ)

end Cert.PickArr

end
-- ==== Proof.PickPre.lean ====
/- The precondition of the choice of chunks read at the rows. -/
module

public import proofs.«01_k».proof.Proof.PickRef
public import proofs.«01_k».proof.Proof.Gen.Pre_enough
public import Idealize.ShloMosaic.Lib.ReduceAll

@[expose] public section

noncomputable section

namespace Cert.PickPre

open Idealize.ShloMosaic Cert.NearRank Cert.NearSpec Cert.PickSpec Cert.Pre_enough Cert.Pre_enough.Gen

/-- How many chunks of each row are not masked. -/
def counts (x : FVec Ideal S1024x3168 .f32) : IVec S1024 32 :=
  Host.reduce IntOp.addi (extui 32 (cmpf .ogt x (broadcastInDim S1024x3168 ![] bcast_S_S1024x3168 (constant S_ .f32 0xFF800000#32))) natLt_1_32)
    (constantI S_ 32 0#32) reducesTo_S1024x3168_S1024_d1 h_S_

theorem counts_at (x : FVec Ideal S1024x3168 .f32) (i : Fin 1024) :
    counts x (ix1 i) = BitVec.ofNat 32 (Finset.univ.filter fun j => ⊥ < line x i j).card := by
  pointwise [counts]
  rw [IndicatorCount.fold_addi_setWidth_eq_card]
  congr 2
  ext k
  rw [ofBits_bot]
  simp only [Finset.mem_filter, Finset.mem_univ, true_and, WordCmp.ofBool_eq_one_iff]
  exact decide_eq_true_iff

/-- Of an argument that satisfies the precondition, each row has fifty-one chunks that are not masked. -/
theorem enough (a : FVec Ideal S99x1024x32 .f32) (h : fn a = fun _ => 1#1) (i : Fin 1024) : Enough (line (PickRef.rows a) i) := by
  have e := congrFun h (fun a => a.elim0)
  have w := Host.reduce_andi_all (t := S_) _ _ _ _ _ e (ix1 i)
  have w' : IntOp.cmpi .sge (counts (PickRef.rows a) (ix1 i)) (BitVec.ofNat 32 51) = 1#1 := w
  have hc : (Finset.univ.filter fun j => ⊥ < line (PickRef.rows a) i j).card ≤ 3168 := (Finset.card_le_univ _).trans (by rw [Fintype.card_fin])
  rw [counts_at] at w'
  exact (WordCmp.cmpi_sge_ofNat_eq_one_iff (by omega) (by omega)).1 w'

end Cert.PickPre

end
-- ==== Proof.PickClaims.lean ====
/- The claims about the choice of chunks, one by one: the three frames, the named mask, and the equality of the kernel's result with the
   reference's. -/
module

public import proofs.«01_k».proof.Defs
public import proofs.«01_k».proof.Proof.PickArr
public import proofs.«01_k».proof.Proof.PickRef
public import proofs.«01_k».proof.Proof.PickPre
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_enough
public import Idealize.ShloMosaic.Lib.Quiescent

@[expose] public section

noncomputable section

namespace Cert.PickClaims

open Idealize.ShloMosaic Idealize.SL.Sem Cert.PickSpec

/-- Every run of the kernel, from any memory, ends and leaves its arguments and semaphores as they were. -/
theorem frame_kernel : Cert.quiescent_Kernel3 := fun m ρ _ => Cert.Kernel3.Gen.frame m ρ

/-- The same of the idealized kernel. -/
theorem frame_ideal : Cert.quiescent_Kernel3Ideal := fun m ρ _ => Cert.Kernel3Ideal.Gen.frame m ρ

/-- The same of the idealized reference. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The named mask is the one rewritten constant, and it stands for minus infinity. -/
theorem preserves : Cert.preserves_Kernel3_Kernel3Ideal :=
  IdealRules.named_const.statement Cert.Kernel3Ideal.κ "mask" .f32 0xF149F2CA#32 ⊥ rfl

/-- Of arguments that agree, the kernel's numbers are the reference's. -/
theorem algebraic : Cert.algebraic_Kernel3Ideal_Reference3Ideal_pre_enough := by
  intro m ρ m' ρ' hpre hag
  have hd : ∀ c i, Enough (line (PickRef.rows (PickArr.maxima m c)) i) := fun c => PickPre.enough _ (hpre c)
  refine ⟨fun c => PickArr.chosenIds m c, ?_, ?_⟩
  · refine (θ_run Cert.Kernel3Ideal.defs _ _).mono (fun r h c => ?_) (PickArr.run m ρ)
    obtain ⟨h0, h1⟩ := h c
    exact ⟨h0.trans (PickArr.final1 m c (hd c)), h1⟩
  · refine (θ_run Cert.Reference3Ideal.defs _ _).mono (fun r h c => ?_) (Cert.Reference3Ideal.Value.run (F := Ideal) m' ρ')
    obtain ⟨h0, h1⟩ := h c
    have a0 := hag c
    refine ⟨h0.trans ?_, h1⟩
    refine Eq.trans (PickRef.result_at (PickRef.rows (m' ((c.tc : Thread Cert.Reference3Ideal.nD Cert.Reference3Ideal.τ).loc Cert.Reference3Ideal.main_arg0)))) ?_
    rw [a0]
    rfl

end Cert.PickClaims

end
-- ==== Proof.lean ====
module

public import proofs.«01_k».proof.Defs
public import proofs.«01_k».proof.Proof.Claims
public import proofs.«01_k».proof.Proof.NearClaims
public import proofs.«01_k».proof.Proof.PickClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_in_bank
public import proofs.«01_k».proof.Proof.Gen.Pre_distinct
public import proofs.«01_k».proof.Proof.Gen.Pre_enough
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_in_bank.Gen.facts, Cert.Pre_distinct.Gen.facts, Cert.Pre_enough.Gen.facts,
    Claims.frame_kernel, Claims.frame_ideal, fun m ρ _ => Claims.frame_ideal m ρ trivial, Claims.frame_reference,
    fun m ρ _ => Claims.frame_reference m ρ trivial,
    NearClaims.frame_kernel, NearClaims.frame_ideal, fun m ρ _ => NearClaims.frame_ideal m ρ trivial, NearClaims.frame_reference,
    fun m ρ _ => NearClaims.frame_reference m ρ trivial,
    PickClaims.frame_kernel, PickClaims.frame_ideal, fun m ρ _ => PickClaims.frame_ideal m ρ trivial, PickClaims.frame_reference,
    fun m ρ _ => PickClaims.frame_reference m ρ trivial,
    Claims.preserves, Claims.algebraic, NearClaims.preserves, NearClaims.algebraic,
    PickClaims.preserves, PickClaims.algebraic⟩

end Cert.Proof

end
